-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_full [hPre_finite_and_full : Cert.Pre_finite_and_full.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_and_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_and_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_and_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_and_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_and_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite_and_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite_and_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite_and_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_finite_and_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.1 = (fun _ => 1#1)
    ∧ (Cert.Pre_finite_and_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_full [hPre_finite_and_full : Cert.Pre_finite_and_full.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_and_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_and_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_and_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_and_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_and_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite_and_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite_and_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite_and_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_finite_and_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.1 = (fun _ => 1#1)
    ∧ (Cert.Pre_finite_and_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_and_full [hKernelIdeal : Cert.KernelIdeal.Facts] [hPre_finite_and_full : Cert.Pre_finite_and_full.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_full m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_and_full [hReferenceIdeal : Cert.ReferenceIdeal.Facts] [hPre_finite_and_full : Cert.Pre_finite_and_full.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_full m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_and_full [hKernelIdeal : Cert.KernelIdeal.Facts] [hReferenceIdeal : Cert.ReferenceIdeal.Facts] [hPre_finite_and_full : Cert.Pre_finite_and_full.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_full m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_and_full : Cert.Pre_finite_and_full.Facts),
    quiescent_Kernel (hKernel := hKernel)
    ∧ quiescent_KernelIdeal (hKernelIdeal := hKernelIdeal)
    ∧ quiescent_KernelIdeal_pre_finite_and_full (hKernelIdeal := hKernelIdeal) (hPre_finite_and_full := hPre_finite_and_full)
    ∧ quiescent_ReferenceIdeal (hReferenceIdeal := hReferenceIdeal)
    ∧ quiescent_ReferenceIdeal_pre_finite_and_full (hReferenceIdeal := hReferenceIdeal) (hPre_finite_and_full := hPre_finite_and_full)
    ∧ preserves_Kernel_KernelIdeal
    ∧ algebraic_KernelIdeal_ReferenceIdeal_pre_finite_and_full (hKernelIdeal := hKernelIdeal) (hReferenceIdeal := hReferenceIdeal) (hPre_finite_and_full := hPre_finite_and_full)
-- ==== Pre_finite_and_full.lean ====
abbrev S4x64 : Shape := ⟨2, ![4, 64]⟩
abbrev S4x4096x64 : Shape := ⟨3, ![4, 4096, 64]⟩
abbrev S4x2048x64 : Shape := ⟨3, ![4, 2048, 64]⟩
abbrev S64x64 : Shape := ⟨2, ![64, 64]⟩
abbrev S4 : Shape := ⟨1, ![4]⟩
abbrev S_ : Shape := ⟨0, ![]⟩

class Facts : Prop where
  bcast_S_S4x64 : S_.BroadcastsInDim S4x64 (![] : Fin 0 → Fin S4x64.rank)
  bcast_S_S4x4096x64 : S_.BroadcastsInDim S4x4096x64 (![] : Fin 0 → Fin S4x4096x64.rank)
  bcast_S_S4x2048x64 : S_.BroadcastsInDim S4x2048x64 (![] : Fin 0 → Fin S4x2048x64.rank)
  bcast_S_S64x64 : S_.BroadcastsInDim S64x64 (![] : Fin 0 → Fin S64x64.rank)
  bcast_S_S4 : S_.BroadcastsInDim S4 (![] : Fin 0 → Fin S4.rank)

variable [Facts]

def fn_part1 {F : FTy → Type} [FloatOps F] (main_arg6 : FVec F S4x2048x64 .f32) (main_arg7 : FVec F S64x64 .f32) (main_arg8 : FVec F S64x64 .f32) (main_arg9 : IVec S4 32) (main_arg10 : IVec S4 32) (main_v2 : IVec S4x64 1) (main_v5 : IVec S4x64 1) (main_v8 : IVec S4x64 1) (main_v11 : IVec S4x4096x64 1) (main_v14 : IVec S4x4096x64 1) (main_v17 : IVec S4x4096x64 1) : IVec S4x64 1 × IVec S4x64 1 × IVec S4x64 1 × IVec S4x4096x64 1 × IVec S4x4096x64 1 × IVec S4x4096x64 1 × IVec S4x2048x64 1 × IVec S64x64 1 × IVec S64x64 1 × IVec S4 1 × IVec S4 1 :=
  let main_v18 : FVec F S4x2048x64 .f32 := Host.absf main_arg6
  let main_cst_5 : FVec F S_ .f32 := constant S_ .f32 0x7F800000#32
  let main_v19 : FVec F S4x2048x64 .f32 := broadcastInDim S4x2048x64 ![] bcast_S_S4x2048x64 main_cst_5
  let main_v20 : IVec S4x2048x64 1 := cmpf .olt main_v18 main_v19
  let main_v21 : FVec F S64x64 .f32 := Host.absf main_arg7
  let main_cst_6 : FVec F S_ .f32 := constant S_ .f32 0x7F800000#32
  let main_v22 : FVec F S64x64 .f32 := broadcastInDim S64x64 ![] bcast_S_S64x64 main_cst_6
  let main_v23 : IVec S64x64 1 := cmpf .olt main_v21 main_v22
  let main_v24 : FVec F S64x64 .f32 := Host.absf main_arg8
  let main_cst_7 : FVec F S_ .f32 := constant S_ .f32 0x7F800000#32
  let main_v25 : FVec F S64x64 .f32 := broadcastInDim S64x64 ![] bcast_S_S64x64 main_cst_7
  let main_v26 : IVec S64x64 1 := cmpf .olt main_v24 main_v25
  let main_c : IVec S_ 32 := constantI S_ 32 4096#32
  let main_v27 : IVec S4 32 := broadcastInDim S4 ![] bcast_S_S4 main_c
  let main_v28 : IVec S4 1 := cmpi .sge main_arg9 main_v27
  let main_c_8 : IVec S_ 32 := constantI S_ 32 2048#32
  let main_v29 : IVec S4 32 := broadcastInDim S4 ![] bcast_S_S4 main_c_8
  let main_v30 : IVec S4 1 := cmpi .sge main_arg10 main_v29
  (main_v2, main_v5, main_v8, main_v11, main_v14, main_v17, main_v20, main_v23, main_v26, main_v28, main_v30)

def fn {F : FTy → Type} [FloatOps F] (main_arg0 : FVec F S4x64 .f32) (main_arg1 : FVec F S4x64 .f32) (main_arg2 : FVec F S4x64 .f32) (main_arg3 : FVec F S4x4096x64 .f32) (main_arg4 : FVec F S4x4096x64 .f32) (main_arg5 : FVec F S4x4096x64 .f32) (main_arg6 : FVec F S4x2048x64 .f32) (main_arg7 : FVec F S64x64 .f32) (main_arg8 : FVec F S64x64 .f32) (main_arg9 : IVec S4 32) (main_arg10 : IVec S4 32) : IVec S4x64 1 × IVec S4x64 1 × IVec S4x64 1 × IVec S4x4096x64 1 × IVec S4x4096x64 1 × IVec S4x4096x64 1 × IVec S4x2048x64 1 × IVec S64x64 1 × IVec S64x64 1 × IVec S4 1 × IVec S4 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_v3 : FVec F S4x64 .f32 := Host.absf main_arg1
  let main_cst_0 : FVec F S_ .f32 := constant S_ .f32 0x7F800000#32
  let main_v4 : FVec F S4x64 .f32 := broadcastInDim S4x64 ![] bcast_S_S4x64 main_cst_0
  let main_v5 : IVec S4x64 1 := cmpf .olt main_v3 main_v4
  let main_v6 : FVec F S4x64 .f32 := Host.absf main_arg2
  let main_cst_1 : FVec F S_ .f32 := constant S_ .f32 0x7F800000#32
  let main_v7 : FVec F S4x64 .f32 := broadcastInDim S4x64 ![] bcast_S_S4x64 main_cst_1
  let main_v8 : IVec S4x64 1 := cmpf .olt main_v6 main_v7
  let main_v9 : FVec F S4x4096x64 .f32 := Host.absf main_arg3
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_v12 : FVec F S4x4096x64 .f32 := Host.absf main_arg4
  let main_cst_3 : FVec F S_ .f32 := constant S_ .f32 0x7F800000#32
  let main_v13 : FVec F S4x4096x64 .f32 := broadcastInDim S4x4096x64 ![] bcast_S_S4x4096x64 main_cst_3
  let main_v14 : IVec S4x4096x64 1 := cmpf .olt main_v12 main_v13
  let main_v15 : FVec F S4x4096x64 .f32 := Host.absf main_arg5
  let main_cst_4 : FVec F S_ .f32 := constant S_ .f32 0x7F800000#32
  let main_v16 : FVec F S4x4096x64 .f32 := broadcastInDim S4x4096x64 ![] bcast_S_S4x4096x64 main_cst_4
  let main_v17 : IVec S4x4096x64 1 := cmpf .olt main_v15 main_v16
  fn_part1 (F := F) main_arg6 main_arg7 main_arg8 main_arg9 main_arg10 main_v2 main_v5 main_v8 main_v11 main_v14 main_v17
-- ==== Kernel.lean ====
abbrev S4x64 : Shape := ⟨2, ![4, 64]⟩
abbrev S4x4096x64 : Shape := ⟨3, ![4, 4096, 64]⟩
abbrev S4x2048x64 : Shape := ⟨3, ![4, 2048, 64]⟩
abbrev S64x64 : Shape := ⟨2, ![64, 64]⟩
abbrev S4 : Shape := ⟨1, ![4]⟩
abbrev S4x1x64 : Shape := ⟨3, ![4, 1, 64]⟩
abbrev S4x1x1 : Shape := ⟨3, ![4, 1, 1]⟩
abbrev S1x1x64 : Shape := ⟨3, ![1, 1, 64]⟩
abbrev S1x4096x64 : Shape := ⟨3, ![1, 4096, 64]⟩
abbrev S1x2048x64 : Shape := ⟨3, ![1, 2048, 64]⟩
abbrev S1x1x1 : Shape := ⟨3, ![1, 1, 1]⟩
abbrev S1x64 : Shape := ⟨2, ![1, 64]⟩
abbrev S4096x64 : Shape := ⟨2, ![4096, 64]⟩
abbrev S2048x64 : Shape := ⟨2, ![2048, 64]⟩
abbrev S4096x1 : Shape := ⟨2, ![4096, 1]⟩
abbrev S4096x66 : Shape := ⟨2, ![4096, 66]⟩
abbrev S2048x1 : Shape := ⟨2, ![2048, 1]⟩
abbrev S2048 : Shape := ⟨1, ![2048]⟩
abbrev S2048x66 : Shape := ⟨2, ![2048, 66]⟩
abbrev S1x1 : Shape := ⟨2, ![1, 1]⟩
abbrev S1 : Shape := ⟨1, ![1]⟩
abbrev S1x66 : Shape := ⟨2, ![1, 66]⟩
abbrev S1x4096 : Shape := ⟨2, ![1, 4096]⟩
abbrev S1x1x4096 : Shape := ⟨3, ![1, 1, 4096]⟩
abbrev S1x2048 : Shape := ⟨2, ![1, 2048]⟩
abbrev S1024x66 : Shape := ⟨2, ![1024, 66]⟩
abbrev S1024x2048 : Shape := ⟨2, ![1024, 2048]⟩
abbrev S1024x1 : Shape := ⟨2, ![1024, 1]⟩
abbrev S1x1x2048 : Shape := ⟨3, ![1, 1, 2048]⟩
abbrev S6x1 : Shape := ⟨2, ![6, 1]⟩
abbrev S16x1 : Shape := ⟨2, ![16, 1]⟩
abbrev S16x2048 : Shape := ⟨2, ![16, 2048]⟩
abbrev S16x64 : Shape := ⟨2, ![16, 64]⟩
abbrev S16 : Shape := ⟨1, ![16]⟩
abbrev S16x66 : Shape := ⟨2, ![16, 66]⟩
abbrev S16x4096 : Shape := ⟨2, ![16, 4096]⟩
abbrev S1x16x1 : Shape := ⟨3, ![1, 16, 1]⟩

abbrev nBuf : Space → Nat
  | .hbm => 16
  | .vmem => 18
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x4096x64, .f32⟩
  | .hbm, ⟨4, _⟩ => ⟨S4x4096x64, .f32⟩
  | .hbm, ⟨5, _⟩ => ⟨S4x4096x64, .f32⟩
  | .hbm, ⟨6, _⟩ => ⟨S4x2048x64, .f32⟩
  | .hbm, ⟨7, _⟩ => ⟨S64x64, .f32⟩
  | .hbm, ⟨8, _⟩ => ⟨S64x64, .f32⟩
  | .hbm, ⟨9, _⟩ => ⟨S4, .i32⟩
  | .hbm, ⟨10, _⟩ => ⟨S4, .i32⟩
  | .hbm, ⟨11, _⟩ => ⟨S4x1x64, .f32⟩
  | .hbm, ⟨12, _⟩ => ⟨S4x1x64, .f32⟩
  | .hbm, ⟨13, _⟩ => ⟨S4x1x64, .f32⟩
  | .hbm, ⟨14, _⟩ => ⟨S4x1x1, .f32⟩
  | .hbm, ⟨15, _⟩ => ⟨S4, .f32⟩
  | .local _ .vmem, ⟨0, _⟩ => ⟨S1x1x64, .f32⟩
  | .local _ .vmem, ⟨1, _⟩ => ⟨S1x1x64, .f32⟩
  | .local _ .vmem, ⟨2, _⟩ => ⟨S1x1x64, .f32⟩
  | .local _ .vmem, ⟨3, _⟩ => ⟨S1x1x64, .f32⟩
  | .local _ .vmem, ⟨4, _⟩ => ⟨S1x1x64, .f32⟩
  | .local _ .vmem, ⟨5, _⟩ => ⟨S1x1x64, .f32⟩
  | .local _ .vmem, ⟨6, _⟩ => ⟨S1x4096x64, .f32⟩
  | .local _ .vmem, ⟨7, _⟩ => ⟨S1x4096x64, .f32⟩
  | .local _ .vmem, ⟨8, _⟩ => ⟨S1x4096x64, .f32⟩
  | .local _ .vmem, ⟨9, _⟩ => ⟨S1x4096x64, .f32⟩
  | .local _ .vmem, ⟨10, _⟩ => ⟨S1x4096x64, .f32⟩
  | .local _ .vmem, ⟨11, _⟩ => ⟨S1x4096x64, .f32⟩
  | .local _ .vmem, ⟨12, _⟩ => ⟨S1x2048x64, .f32⟩
  | .local _ .vmem, ⟨13, _⟩ => ⟨S1x2048x64, .f32⟩
  | .local _ .vmem, ⟨14, _⟩ => ⟨S64x64, .f32⟩
  | .local _ .vmem, ⟨15, _⟩ => ⟨S64x64, .f32⟩
  | .local _ .vmem, ⟨16, _⟩ => ⟨S1x1x1, .f32⟩
  | .local _ .vmem, ⟨17, _⟩ => ⟨S1x1x1, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4x64 : Shape := ⟨2, ![4, 64]⟩
abbrev S4x4096x64 : Shape := ⟨3, ![4, 4096, 64]⟩
abbrev S4x2048x64 : Shape := ⟨3, ![4, 2048, 64]⟩
abbrev S64x64 : Shape := ⟨2, ![64, 64]⟩
abbrev S4 : Shape := ⟨1, ![4]⟩
abbrev S4x1x64 : Shape := ⟨3, ![4, 1, 64]⟩
abbrev S_ : Shape := ⟨0, ![]⟩
abbrev S4x1 : Shape := ⟨2, ![4, 1]⟩
abbrev S4x1x1 : Shape := ⟨3, ![4, 1, 1]⟩
abbrev S4x4096 : Shape := ⟨2, ![4, 4096]⟩
abbrev S4x1x4096 : Shape := ⟨3, ![4, 1, 4096]⟩
abbrev S4096 : Shape := ⟨1, ![4096]⟩
abbrev S1x4096 : Shape := ⟨2, ![1, 4096]⟩
abbrev S4x2048 : Shape := ⟨2, ![4, 2048]⟩
abbrev S4x2048x1 : Shape := ⟨3, ![4, 2048, 1]⟩
abbrev S4x2048x4096 : Shape := ⟨3, ![4, 2048, 4096]⟩
abbrev S2048 : Shape := ⟨1, ![2048]⟩
abbrev S1x2048 : Shape := ⟨2, ![1, 2048]⟩
abbrev S4x10 : Shape := ⟨2, ![4, 10]⟩
abbrev S4x10x1 : Shape := ⟨3, ![4, 10, 1]⟩
abbrev S1 : Shape := ⟨1, ![1]⟩
abbrev S1x1x1 : Shape := ⟨3, ![1, 1, 1]⟩
abbrev S4x10x64 : Shape := ⟨3, ![4, 10, 64]⟩
abbrev S4x10x4096 : Shape := ⟨3, ![4, 10, 4096]⟩

abbrev nBuf : Space → Nat
  | .hbm => 305
  | .vmem => 0
  | .smem => 0
  | _ => 0

abbrev hbmTy0_0 (i : Nat) : BufTy := match i % 128 with
  | 0 => ⟨S4x64, .f32⟩
  | 1 => ⟨S4x64, .f32⟩
  | 2 => ⟨S4x64, .f32⟩
  | 3 => ⟨S4x4096x64, .f32⟩
  | 4 => ⟨S4x4096x64, .f32⟩
  | 5 => ⟨S4x4096x64, .f32⟩
  | 6 => ⟨S4x2048x64, .f32⟩
  | 7 => ⟨S64x64, .f32⟩
  | 8 => ⟨S64x64, .f32⟩
  | 9 => ⟨S4, .i32⟩
  | 10 => ⟨S4, .i32⟩
  | 11 => ⟨S4x1x64, .f32⟩
  | 12 => ⟨S4x1x64, .f32⟩
  | 13 => ⟨S4x1x64, .f32⟩
  | 14 => ⟨S4x1x64, .f32⟩
  | 15 => ⟨S_, .f32⟩
  | 16 => ⟨S4x1, .f32⟩
  | 17 => ⟨S4x1x1, .f32⟩
  | 18 => ⟨S4x4096x64, .f32⟩
  | 19 => ⟨S_, .f32⟩
  | 20 => ⟨S4x4096, .f32⟩
  | 21 => ⟨S4x1x4096, .f32⟩
  | 22 => ⟨S4x1x4096, .f32⟩
  | 23 => ⟨S4x1x4096, .f32⟩
  | 24 => ⟨S4x1x4096, .f32⟩
  | 25 => ⟨S_, .f32⟩
  | 26 => ⟨S4x1x4096, .f32⟩
  | 27 => ⟨S4x1x4096, .f32⟩
  | 28 => ⟨S4x1x4096, .f32⟩
  | 29 => ⟨S_, .f32⟩
  | 30 => ⟨S_, .f32⟩
  | 31 => ⟨S4x1x4096, .f32⟩
  | 32 => ⟨S4x1x4096, .f32⟩
  | 33 => ⟨S4x1x4096, .f32⟩
  | 34 => ⟨S4x1x4096, .f32⟩
  | 35 => ⟨S4x1x4096, .f32⟩
  | 36 => ⟨S4x1x64, .f32⟩
  | 37 => ⟨S_, .f32⟩
  | 38 => ⟨S4x1, .f32⟩
  | 39 => ⟨S4x1x1, .f32⟩
  | 40 => ⟨S4x4096x64, .f32⟩
  | 41 => ⟨S_, .f32⟩
  | 42 => ⟨S4x4096, .f32⟩
  | 43 => ⟨S4x1x4096, .f32⟩
  | 44 => ⟨S4x1x4096, .f32⟩
  | 45 => ⟨S4x1x4096, .f32⟩
  | 46 => ⟨S4x1x4096, .f32⟩
  | 47 => ⟨S_, .f32⟩
  | 48 => ⟨S4x1x4096, .f32⟩
  | 49 => ⟨S4x1x4096, .f32⟩
  | 50 => ⟨S4x1x4096, .f32⟩
  | 51 => ⟨S_, .f32⟩
  | 52 => ⟨S_, .f32⟩
  | 53 => ⟨S4x1x4096, .f32⟩
  | 54 => ⟨S4x1x4096, .f32⟩
  | 55 => ⟨S4x1x4096, .f32⟩
  | 56 => ⟨S4x1x4096, .f32⟩
  | 57 => ⟨S4x1x4096, .f32⟩
  | 58 => ⟨S4x1x64, .f32⟩
  | 59 => ⟨S_, .f32⟩
  | 60 => ⟨S4x1, .f32⟩
  | 61 => ⟨S4x1x1, .f32⟩
  | 62 => ⟨S4x4096x64, .f32⟩
  | 63 => ⟨S_, .f32⟩
  | 64 => ⟨S4x4096, .f32⟩
  | 65 => ⟨S4x1x4096, .f32⟩
  | 66 => ⟨S4x1x4096, .f32⟩
  | 67 => ⟨S4x1x4096, .f32⟩
  | 68 => ⟨S4x1x4096, .f32⟩
  | 69 => ⟨S_, .f32⟩
  | 70 => ⟨S4x1x4096, .f32⟩
  | 71 => ⟨S4x1x4096, .f32⟩
  | 72 => ⟨S4x1x4096, .f32⟩
  | 73 => ⟨S_, .f32⟩
  | 74 => ⟨S_, .f32⟩
  | 75 => ⟨S4x1x4096, .f32⟩
  | 76 => ⟨S4x1x4096, .f32⟩
  | 77 => ⟨S4x1x4096, .f32⟩
  | 78 => ⟨S4x1x4096, .f32⟩
  | 79 => ⟨S4x1x4096, .f32⟩
  | 80 => ⟨S4096, .i32⟩
  | 81 => ⟨S1x4096, .i32⟩
  | 82 => ⟨S4x1, .i32⟩
  | 83 => ⟨S4x4096, .i32⟩
  | 84 => ⟨S4x4096, .i32⟩
  | 85 => ⟨S4x4096, .i1⟩
  | 86 => ⟨S4x4096, .f32⟩
  | 87 => ⟨S4x1x4096, .f32⟩
  | 88 => ⟨S4x1x4096, .f32⟩
  | 89 => ⟨S4x1x4096, .f32⟩
  | 90 => ⟨S4x1x4096, .f32⟩
  | 91 => ⟨S_, .f32⟩
  | 92 => ⟨S4x1, .f32⟩
  | 93 => ⟨S4, .f32⟩
  | 94 => ⟨S4x64, .f32⟩
  | 95 => ⟨S4x64, .f32⟩
  | 96 => ⟨S4x1x64, .f32⟩
  | 97 => ⟨S4x1x64, .f32⟩
  | 98 => ⟨S_, .f32⟩
  | 99 => ⟨S4x1, .f32⟩
  | 100 => ⟨S4x1x1, .f32⟩
  | 101 => ⟨S4x4096x64, .f32⟩
  | 102 => ⟨S_, .f32⟩
  | 103 => ⟨S4x4096, .f32⟩
  | 104 => ⟨S4x1x4096, .f32⟩
  | 105 => ⟨S4x1x4096, .f32⟩
  | 106 => ⟨S4x1x4096, .f32⟩
  | 107 => ⟨S4x1x4096, .f32⟩
  | 108 => ⟨S_, .f32⟩
  | 109 => ⟨S4x1x4096, .f32⟩
  | 110 => ⟨S4x1x4096, .f32⟩
  | 111 => ⟨S4x1x4096, .f32⟩
  | 112 => ⟨S_, .f32⟩
  | 113 => ⟨S_, .f32⟩
  | 114 => ⟨S4x1x4096, .f32⟩
  | 115 => ⟨S4x1x4096, .f32⟩
  | 116 => ⟨S4x1x4096, .f32⟩
  | 117 => ⟨S4x1x4096, .f32⟩
  | 118 => ⟨S4x1x4096, .f32⟩
  | 119 => ⟨S4x4096, .f32⟩
  | 120 => ⟨S4x1x64, .f32⟩
  | 121 => ⟨S4x1x64, .f32⟩
  | 122 => ⟨S_, .f32⟩
  | 123 => ⟨S4x1, .f32⟩
  | 124 => ⟨S4x1x1, .f32⟩
  | 125 => ⟨S4x4096x64, .f32⟩
  | 126 => ⟨S_, .f32⟩
  | 127 => ⟨S4x4096, .f32⟩
  | _ => ⟨S4x64, .f32⟩

abbrev hbmTy0_1 (i : Nat) : BufTy := match i % 128 with
  | 0 => ⟨S4x1x4096, .f32⟩
  | 1 => ⟨S4x1x4096, .f32⟩
  | 2 => ⟨S4x1x4096, .f32⟩
  | 3 => ⟨S4x1x4096, .f32⟩
  | 4 => ⟨S_, .f32⟩
  | 5 => ⟨S4x1x4096, .f32⟩
  | 6 => ⟨S4x1x4096, .f32⟩
  | 7 => ⟨S4x1x4096, .f32⟩
  | 8 => ⟨S_, .f32⟩
  | 9 => ⟨S_, .f32⟩
  | 10 => ⟨S4x1x4096, .f32⟩
  | 11 => ⟨S4x1x4096, .f32⟩
  | 12 => ⟨S4x1x4096, .f32⟩
  | 13 => ⟨S4x1x4096, .f32⟩
  | 14 => ⟨S4x1x4096, .f32⟩
  | 15 => ⟨S4x4096, .f32⟩
  | 16 => ⟨S4096, .i32⟩
  | 17 => ⟨S1x4096, .i32⟩
  | 18 => ⟨S4x1, .i32⟩
  | 19 => ⟨S4x4096, .i32⟩
  | 20 => ⟨S4x4096, .i32⟩
  | 21 => ⟨S4x4096, .i1⟩
  | 22 => ⟨S4x4096, .f32⟩
  | 23 => ⟨S4x4096, .f32⟩
  | 24 => ⟨S4x4096, .f32⟩
  | 25 => ⟨S4x2048x64, .f32⟩
  | 26 => ⟨S_, .f32⟩
  | 27 => ⟨S4x2048, .f32⟩
  | 28 => ⟨S4x2048x1, .f32⟩
  | 29 => ⟨S4x4096x64, .f32⟩
  | 30 => ⟨S_, .f32⟩
  | 31 => ⟨S4x4096, .f32⟩
  | 32 => ⟨S4x1x4096, .f32⟩
  | 33 => ⟨S4x2048x4096, .f32⟩
  | 34 => ⟨S4x2048x4096, .f32⟩
  | 35 => ⟨S4x2048x4096, .f32⟩
  | 36 => ⟨S4x2048x4096, .f32⟩
  | 37 => ⟨S_, .f32⟩
  | 38 => ⟨S4x2048x4096, .f32⟩
  | 39 => ⟨S4x2048x4096, .f32⟩
  | 40 => ⟨S4x2048x4096, .f32⟩
  | 41 => ⟨S_, .f32⟩
  | 42 => ⟨S_, .f32⟩
  | 43 => ⟨S4x2048x4096, .f32⟩
  | 44 => ⟨S4x2048x4096, .f32⟩
  | 45 => ⟨S4x2048x4096, .f32⟩
  | 46 => ⟨S4x2048x4096, .f32⟩
  | 47 => ⟨S4x2048x4096, .f32⟩
  | 48 => ⟨S4x1x4096, .f32⟩
  | 49 => ⟨S4x2048x4096, .f32⟩
  | 50 => ⟨S4x2048x4096, .f32⟩
  | 51 => ⟨S_, .f32⟩
  | 52 => ⟨S4x2048, .f32⟩
  | 53 => ⟨S2048, .i32⟩
  | 54 => ⟨S1x2048, .i32⟩
  | 55 => ⟨S4x1, .i32⟩
  | 56 => ⟨S4x2048, .i32⟩
  | 57 => ⟨S4x2048, .i32⟩
  | 58 => ⟨S4x2048, .i1⟩
  | 59 => ⟨S4x2048, .f32⟩
  | 60 => ⟨S4x2048, .f32⟩
  | 61 => ⟨S4x10, .f32⟩
  | 62 => ⟨S4x10, .i32⟩
  | 63 => ⟨S4x10x1, .i32⟩
  | 64 => ⟨S_, .i32⟩
  | 65 => ⟨S4x10x1, .i32⟩
  | 66 => ⟨S4x10x1, .i1⟩
  | 67 => ⟨S_, .i32⟩
  | 68 => ⟨S4x10x1, .i32⟩
  | 69 => ⟨S4x10x1, .i32⟩
  | 70 => ⟨S4x10x1, .i32⟩
  | 71 => ⟨S1, .i32⟩
  | 72 => ⟨S_, .i32⟩
  | 73 => ⟨S4x10x1, .i32⟩
  | 74 => ⟨S4x10x1, .i1⟩
  | 75 => ⟨S1x1x1, .i32⟩
  | 76 => ⟨S4x10x1, .i32⟩
  | 77 => ⟨S4x10x1, .i1⟩
  | 78 => ⟨S4x10x1, .i1⟩
  | 79 => ⟨S_, .i1⟩
  | 80 => ⟨S4x10, .i1⟩
  | 81 => ⟨S4x10x64, .f32⟩
  | 82 => ⟨S4x10x64, .i1⟩
  | 83 => ⟨S_, .f32⟩
  | 84 => ⟨S4x10x64, .f32⟩
  | 85 => ⟨S4x10x64, .f32⟩
  | 86 => ⟨S4x1x64, .f32⟩
  | 87 => ⟨S4x10x64, .f32⟩
  | 88 => ⟨S4x1x64, .f32⟩
  | 89 => ⟨S4x10x64, .f32⟩
  | 90 => ⟨S4x10x64, .f32⟩
  | 91 => ⟨S_, .f32⟩
  | 92 => ⟨S4x10, .f32⟩
  | 93 => ⟨S4x10x1, .f32⟩
  | 94 => ⟨S4x4096x64, .f32⟩
  | 95 => ⟨S_, .f32⟩
  | 96 => ⟨S4x4096, .f32⟩
  | 97 => ⟨S4x1x4096, .f32⟩
  | 98 => ⟨S4x10x4096, .f32⟩
  | 99 => ⟨S4x10x4096, .f32⟩
  | 100 => ⟨S4x10x4096, .f32⟩
  | 101 => ⟨S4x10x4096, .f32⟩
  | 102 => ⟨S_, .f32⟩
  | 103 => ⟨S4x10x4096, .f32⟩
  | 104 => ⟨S4x10x4096, .f32⟩
  | 105 => ⟨S4x10x4096, .f32⟩
  | 106 => ⟨S_, .f32⟩
  | 107 => ⟨S_, .f32⟩
  | 108 => ⟨S4x10x4096, .f32⟩
  | 109 => ⟨S4x10x4096, .f32⟩
  | 110 => ⟨S4x10x4096, .f32⟩
  | 111 => ⟨S4x10x4096, .f32⟩
  | 112 => ⟨S4x10x4096, .f32⟩
  | 113 => ⟨S4x10x64, .f32⟩
  | 114 => ⟨S_, .f32⟩
  | 115 => ⟨S4x10, .f32⟩
  | 116 => ⟨S4x10x1, .f32⟩
  | 117 => ⟨S4x4096x64, .f32⟩
  | 118 => ⟨S_, .f32⟩
  | 119 => ⟨S4x4096, .f32⟩
  | 120 => ⟨S4x1x4096, .f32⟩
  | 121 => ⟨S4x10x4096, .f32⟩
  | 122 => ⟨S4x10x4096, .f32⟩
  | 123 => ⟨S4x10x4096, .f32⟩
  | 124 => ⟨S4x10x4096, .f32⟩
  | 125 => ⟨S_, .f32⟩
  | 126 => ⟨S4x10x4096, .f32⟩
  | 127 => ⟨S4x10x4096, .f32⟩
  | _ => ⟨S4x64, .f32⟩

abbrev hbmTy0_2 (i : Nat) : BufTy := match i % 128 with
  | 0 => ⟨S4x10x4096, .f32⟩
  | 1 => ⟨S_, .f32⟩
  | 2 => ⟨S_, .f32⟩
  | 3 => ⟨S4x10x4096, .f32⟩
  | 4 => ⟨S4x10x4096, .f32⟩
  | 5 => ⟨S4x10x4096, .f32⟩
  | 6 => ⟨S4x10x4096, .f32⟩
  | 7 => ⟨S4x10x4096, .f32⟩
  | 8 => ⟨S4x10x64, .f32⟩
  | 9 => ⟨S_, .f32⟩
  | 10 => ⟨S4x10, .f32⟩
  | 11 => ⟨S4x10x1, .f32⟩
  | 12 => ⟨S4x4096x64, .f32⟩
  | 13 => ⟨S_, .f32⟩
  | 14 => ⟨S4x4096, .f32⟩
  | 15 => ⟨S4x1x4096, .f32⟩
  | 16 => ⟨S4x10x4096, .f32⟩
  | 17 => ⟨S4x10x4096, .f32⟩
  | 18 => ⟨S4x10x4096, .f32⟩
  | 19 => ⟨S4x10x4096, .f32⟩
  | 20 => ⟨S_, .f32⟩
  | 21 => ⟨S4x10x4096, .f32⟩
  | 22 => ⟨S4x10x4096, .f32⟩
  | 23 => ⟨S4x10x4096, .f32⟩
  | 24 => ⟨S_, .f32⟩
  | 25 => ⟨S_, .f32⟩
  | 26 => ⟨S4x10x4096, .f32⟩
  | 27 => ⟨S4x10x4096, .f32⟩
  | 28 => ⟨S4x10x4096, .f32⟩
  | 29 => ⟨S4x10x4096, .f32⟩
  | 30 => ⟨S4x10x4096, .f32⟩
  | 31 => ⟨S4096, .i32⟩
  | 32 => ⟨S1x4096, .i32⟩
  | 33 => ⟨S4x1, .i32⟩
  | 34 => ⟨S4x4096, .i32⟩
  | 35 => ⟨S4x4096, .i32⟩
  | 36 => ⟨S4x4096, .i1⟩
  | 37 => ⟨S4x4096, .f32⟩
  | 38 => ⟨S4x1x4096, .f32⟩
  | 39 => ⟨S4x10x4096, .f32⟩
  | 40 => ⟨S4x10x4096, .f32⟩
  | 41 => ⟨S4x10x4096, .f32⟩
  | 42 => ⟨S4x10x4096, .f32⟩
  | 43 => ⟨S_, .f32⟩
  | 44 => ⟨S4x10, .f32⟩
  | 45 => ⟨S4x10, .f32⟩
  | 46 => ⟨S_, .f32⟩
  | 47 => ⟨S4, .f32⟩
  | 48 => ⟨S4, .f32⟩
  | _ => ⟨S4x64, .f32⟩

abbrev hbmTy (i : Nat) : BufTy := match i / 128 with
  | 0 => hbmTy0_0 i
  | 1 => hbmTy0_1 i
  | 2 => hbmTy0_2 i
  | _ => ⟨S4x64, .f32⟩

abbrev bufTy : (tb : Table) → Fin (tcTables nBuf tb) → BufTy
  | .hbm, ⟨i, _⟩ => hbmTy i
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_call2_v0 : Ref sig .tc := ⟨.hbm, 74, rfl⟩
abbrev main_call2_v1 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_call3_v0 : Ref sig .tc := ⟨.hbm, 113, rfl⟩
abbrev main_call3_v1 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_16 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_18 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_19 : Ref sig .tc := ⟨.hbm, 136, rfl⟩
abbrev main_call4_v0 : Ref sig .tc := ⟨.hbm, 137, rfl⟩
abbrev main_call4_v1 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_20 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_21 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_22 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_23 : Ref sig .tc := ⟨.hbm, 169, rfl⟩
abbrev main_call5_v0 : Ref sig .tc := ⟨.hbm, 170, rfl⟩
abbrev main_call5_v1 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_24 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_values : Ref sig .tc := ⟨.hbm, 189, rfl⟩
abbrev main_indices : Ref sig .tc := ⟨.hbm, 190, rfl⟩
abbrev main_v140 : Ref sig .tc := ⟨.hbm, 191, rfl⟩
abbrev main_call6_c : Ref sig .tc := ⟨.hbm, 192, rfl⟩
abbrev main_call6_v0 : Ref sig .tc := ⟨.hbm, 193, rfl⟩
abbrev main_call6_v1 : Ref sig .tc := ⟨.hbm, 194, rfl⟩
abbrev main_call6_c_0 : Ref sig .tc := ⟨.hbm, 195, rfl⟩
abbrev main_call6_v2 : Ref sig .tc := ⟨.hbm, 196, rfl⟩
abbrev main_call6_v3 : Ref sig .tc := ⟨.hbm, 197, rfl⟩
abbrev main_call6_v4 : Ref sig .tc := ⟨.hbm, 198, rfl⟩
abbrev main_call6_c_1 : Ref sig .tc := ⟨.hbm, 199, rfl⟩
abbrev main_call6_c_2 : Ref sig .tc := ⟨.hbm, 200, rfl⟩
abbrev main_call6_v5 : Ref sig .tc := ⟨.hbm, 201, rfl⟩
abbrev main_call6_v6 : Ref sig .tc := ⟨.hbm, 202, rfl⟩
abbrev main_call6_v7 : Ref sig .tc := ⟨.hbm, 203, rfl⟩
abbrev main_call6_v8 : Ref sig .tc := ⟨.hbm, 204, rfl⟩
abbrev main_call6_v9 : Ref sig .tc := ⟨.hbm, 205, rfl⟩
abbrev main_call6_v10 : Ref sig .tc := ⟨.hbm, 206, rfl⟩
abbrev main_call6_c_3 : Ref sig .tc := ⟨.hbm, 207, rfl⟩
abbrev main_call6_v11 : Ref sig .tc := ⟨.hbm, 208, rfl⟩
abbrev main_call6_v12 : Ref sig .tc := ⟨.hbm, 209, rfl⟩
abbrev main_call6_v13 : Ref sig .tc := ⟨.hbm, 210, rfl⟩
abbrev main_call6_cst : Ref sig .tc := ⟨.hbm, 211, rfl⟩
abbrev main_call6_v14 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_cst_25 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_cst_26 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_cst_27 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_cst_28 : Ref sig .tc := ⟨.hbm, 234, rfl⟩
abbrev main_call7_v0 : Ref sig .tc := ⟨.hbm, 235, rfl⟩
abbrev main_call7_v1 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_cst_29 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_cst_30 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_cst_31 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_cst_32 : Ref sig .tc := ⟨.hbm, 257, rfl⟩
abbrev main_call8_v0 : Ref sig .tc := ⟨.hbm, 258, rfl⟩
abbrev main_call8_v1 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_cst_33 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_cst_34 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_cst_35 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_cst_36 : Ref sig .tc := ⟨.hbm, 280, rfl⟩
abbrev main_call9_v0 : Ref sig .tc := ⟨.hbm, 281, rfl⟩
abbrev main_call9_v1 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_cst_37 : Ref sig .tc := ⟨.hbm, 299, rfl⟩
abbrev main_v209 : Ref sig .tc := ⟨.hbm, 300, rfl⟩
abbrev main_v210 : Ref sig .tc := ⟨.hbm, 301, rfl⟩
abbrev main_cst_38 : Ref sig .tc := ⟨.hbm, 302, rfl⟩
abbrev main_v211 : Ref sig .tc := ⟨.hbm, 303, rfl⟩
abbrev main_v212 : Ref sig .tc := ⟨.hbm, 304, rfl⟩

abbrev nD : Nat := 1
abbrev τ : Topo := Topo.v7x

variable {F : FTy → Type} [FloatOps F]
-- ==== Proof.Dist.lean ====
/-
  The distance of two vectors of 64 real numbers, as both programs compute it, and the facts about extended reals the two programs' arithmetic
  rests on. Every input is finite, so every entry is a real number; the programs compute in the extended reals.
-/
module

public import Idealize.ShloMosaic.Lib.Pointwise

@[expose] public section

noncomputable section

namespace Cert.Hops

open Idealize.ShloMosaic

/-- The small positive constant (about 1e-12) below which no squared distance is taken. -/
abbrev eps : EReal := Ideal.ofBits .f32 730643660#32

/-- The constant of `eps` is a real number. -/
theorem eps_coe : ∃ r : ℝ, 0 ≤ r ∧ eps = (r : EReal) := by
  simp [eps, Ideal.ofBits, Ideal.ieee]
  rw [← EReal.coe_mul]
  refine ⟨_, ?_, rfl⟩
  positivity

/-- The word `0xC0000000` is minus two. -/
theorem neg_two : Ideal.ofBits .f32 3221225472#32 = ((-2 : ℝ) : EReal) := by
  simp [Ideal.ofBits, Ideal.ieee]
  rw [← EReal.coe_mul]
  norm_num

/-- The word `0x40000000` is two. -/
theorem pos_two : Ideal.ofBits .f32 1073741824#32 = ((2 : ℝ) : EReal) := by
  simp [Ideal.ofBits, Ideal.ieee]
  rw [← EReal.coe_mul]
  norm_num

/-- The word `0x7F800000` is plus infinity. -/
theorem plus_inf : Ideal.ofBits .f32 2139095040#32 = ⊤ := by
  simp [Ideal.ofBits, Ideal.ieee]

/-- The word `0xFF800000` is minus infinity. -/
theorem minus_inf : Ideal.ofBits .f32 4286578688#32 = ⊥ := by
  simp [Ideal.ofBits, Ideal.ieee]

/-- A finite sum of real numbers, taken in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The scalar product of two real vectors, taken in the extended reals. -/
theorem dot_coe {ι : Type} [Fintype ι] (f g : ι → ℝ) : ∑ i, (f i : EReal) * (g i : EReal) = ((∑ i, f i * g i : ℝ) : EReal) := by
  rw [← sum_coe]
  exact Finset.sum_congr rfl fun i _ => (EReal.coe_mul _ _).symm

/-- The squared distance of `q` and `f`: `|q|² + |f|² − 2 q·f`. -/
def sq (q f : Fin 64 → ℝ) : ℝ := ∑ k, q k * q k + ∑ k, f k * f k - 2 * ∑ k, q k * f k

/-- The distance of `q` and `f`, its square kept at `eps` or above. -/
def dist (q f : Fin 64 → ℝ) : EReal := Ideal.sqrt (max (sq q f : EReal) eps)

/-- A distance is a real number. -/
theorem dist_coe (q f : Fin 64 → ℝ) : ∃ r : ℝ, dist q f = (r : EReal) := by
  obtain ⟨e, he, h⟩ := eps_coe
  unfold dist
  have hm : max (sq q f : EReal) (e : EReal) = ((max (sq q f) e : ℝ) : EReal) := (EReal.coe_strictMono.monotone.map_max).symm
  rw [h, hm, Ideal.sqrt_coe, if_neg (not_lt.mpr (le_max_of_le_right he))]
  exact ⟨_, rfl⟩

/-- The squared distance does not depend on the order. -/
theorem sq_comm (q f : Fin 64 → ℝ) : sq q f = sq f q := by
  unfold sq
  have : ∑ k, q k * f k = ∑ k, f k * q k := Finset.sum_congr rfl fun k _ => mul_comm _ _
  rw [this]; ring

/-- The distance does not depend on the order. -/
theorem dist_comm (q f : Fin 64 → ℝ) : dist q f = dist f q := by
  unfold dist; rw [sq_comm]

/-- A vector widened to 66 entries: `-2 v`, then `1`, then `|v|²`. -/
def wideQ (v : Fin 64 → EReal) (k : Fin 66) : EReal :=
  if h : k.val < 64 then Ideal.ofBits .f32 3221225472#32 * v ⟨k.val, h⟩ else if k.val - 64 < 1 then 1 else ∑ x, v x * v x

/-- A vector widened to 66 entries: `v`, then `|v|²`, then `1`. -/
def wideF (v : Fin 64 → EReal) (k : Fin 66) : EReal :=
  if h : k.val < 64 then v ⟨k.val, h⟩ else if k.val - 64 < 1 then ∑ x, v x * v x else 1

/-- The scalar product of the two widened vectors is the squared distance. -/
theorem wide_dot (q f : Fin 64 → ℝ) :
    ∑ k, wideQ (fun x => (q x : EReal)) k * wideF (fun x => (f x : EReal)) k = (sq q f : EReal) := by
  rw [Fin.sum_univ_castSucc, Fin.sum_univ_castSucc]
  have hb : ∀ k : Fin 64, wideQ (fun x => (q x : EReal)) k.castSucc.castSucc * wideF (fun x => (f x : EReal)) k.castSucc.castSucc
      = ((-2 * q k * f k : ℝ) : EReal) := fun k => by
    have : (k.castSucc.castSucc : Fin 66).val < 64 := k.isLt
    rw [wideQ, wideF, dif_pos this, dif_pos this, neg_two, ← EReal.coe_mul, ← EReal.coe_mul]
    rfl
  have h0 : wideQ (fun x => (q x : EReal)) (Fin.last 64).castSucc * wideF (fun x => (f x : EReal)) (Fin.last 64).castSucc
      = ((∑ x, f x * f x : ℝ) : EReal) := by
    rw [← dot_coe]; simp [wideQ, wideF]
  have h1 : wideQ (fun x => (q x : EReal)) (Fin.last 65) * wideF (fun x => (f x : EReal)) (Fin.last 65)
      = ((∑ x, q x * q x : ℝ) : EReal) := by
    rw [← dot_coe]; simp [wideQ, wideF]
  rw [Finset.sum_congr rfl fun k _ => hb k, h0, h1, sum_coe, ← EReal.coe_add, ← EReal.coe_add]
  congr 1
  unfold sq
  have : ∑ k, -2 * q k * f k = -2 * ∑ k, q k * f k := by
    rw [Finset.mul_sum]; exact Finset.sum_congr rfl fun k _ => mul_assoc _ _ _
  rw [this]; ring

/-- The same with the factors in the other order. -/
theorem wide_dot' (f q : Fin 64 → ℝ) :
    ∑ k, wideF (fun x => (f x : EReal)) k * wideQ (fun x => (q x : EReal)) k = (sq q f : EReal) := by
  rw [← wide_dot]; exact Finset.sum_congr rfl fun k _ => mul_comm _ _

/-- `exp (-x)` decreases. -/
theorem exp_neg_antitone : Antitone fun x : EReal => Ideal.exp (-x) := by
  have hm : Monotone Ideal.exp := by
    intro a b h
    induction a with
    | bot => induction b with
      | bot => exact le_rfl
      | coe b => simpa using (Real.exp_pos b).le
      | top => simp
    | coe a => induction b with
      | bot => simp at h
      | coe b => simpa using h
      | top => simp
    | top => rw [top_le_iff.mp h]
  exact fun a b h => hm (EReal.neg_le_neg_iff.mpr h)

/-- On real numbers `exp (-x)` strictly decreases. -/
theorem exp_neg_lt (x y : ℝ) : Ideal.exp (-(x : EReal)) < Ideal.exp (-(y : EReal)) ↔ y < x := by
  rw [← EReal.coe_neg, ← EReal.coe_neg, Ideal.exp_coe, Ideal.exp_coe]
  simp

/-- The product of the exponentials is the exponential of the sum. -/
theorem exp_neg_mul (x y : ℝ) : Ideal.exp (-(x : EReal)) * Ideal.exp (-(y : EReal)) = Ideal.exp (-((x : EReal) + (y : EReal))) := by
  rw [← EReal.coe_add, ← EReal.coe_neg, ← EReal.coe_neg, ← EReal.coe_neg, Ideal.exp_coe, Ideal.exp_coe, Ideal.exp_coe, ← EReal.coe_mul,
    ← Real.exp_add]
  congr 2; ring

/-- A decreasing function turns the least of finitely many values into the greatest. -/
theorem iSup_antitone {ι : Type} [Finite ι] [Nonempty ι] {g : EReal → EReal} (hg : Antitone g) (x : ι → EReal) :
    ⨆ i, g (x i) = g (⨅ i, x i) := by
  obtain ⟨i, hi⟩ := exists_eq_ciInf_of_finite (f := x)
  exact le_antisymm (iSup_le fun j => hg (iInf_le x j)) (hi ▸ le_iSup (fun i => g (x i)) i)

/-- A minimum over a finite type as a fold, started at plus infinity. -/
theorem fold_min {ι : Type} [Fintype ι] (f : ι → EReal) : Finset.fold min ⊤ f Finset.univ = ⨅ i, f i :=
  Finset.inf_univ_eq_iInf f

/-- A maximum over a finite type as a fold, started at minus infinity. -/
theorem fold_max {ι : Type} [Fintype ι] (f : ι → EReal) : Finset.fold max ⊥ f Finset.univ = ⨆ i, f i :=
  Finset.sup_univ_eq_iSup f

end Cert.Hops
-- ==== Proof.Select.lean ====
/-
  Taking the least entry of a row of 2048 again and again: the kernel's ten rounds in plain terms, and the same ten positions as the first ten
  of a stable descending sort of the scores `exp (-row)`.
-/
module

public import proofs.«01_k».proof.Proof.Dist
public import Idealize.ShloMosaic.Lib.SortPrefix

@[expose] public section

noncomputable section

namespace Cert.Hops

open Idealize.ShloMosaic

/-- A row of 2048 extended reals. -/
local notation "Row" => (Fin 2048 → EReal)

/-- Some position of a row holds its least value. -/
theorem exists_least (w : Row) : (Finset.univ.filter fun n => w n = ⨅ i, w i).Nonempty := by
  obtain ⟨i, hi⟩ := exists_eq_ciInf_of_finite (f := w)
  exact ⟨i, by simp [hi]⟩

/-- The first position of a row's least value. -/
def least (w : Row) : Fin 2048 := (Finset.univ.filter fun n => w n = ⨅ i, w i).min' (exists_least w)

/-- The value at the first least position is the least value. -/
theorem least_val (w : Row) : w (least w) = ⨅ i, w i := by
  have h := Finset.min'_mem _ (exists_least w)
  exact (Finset.mem_filter.mp h).2

/-- No entry is below the one at the first least position. -/
theorem least_le (w : Row) (n : Fin 2048) : w (least w) ≤ w n := by
  rw [least_val w]; exact iInf_le w n

/-- A position of the least value is not before the first one. -/
theorem least_first (w : Row) (n : Fin 2048) (h : w n ≤ w (least w)) : least w ≤ n := by
  refine Finset.min'_le _ _ (Finset.mem_filter.mpr ⟨Finset.mem_univ n, ?_⟩)
  rw [least_val w] at h
  exact le_antisymm h (iInf_le w n)

/-- The row left after `r` rounds: each round puts plus infinity at the first least position. -/
def work (m : Row) : ℕ → Row
  | 0 => m
  | r + 1 => fun n => if n = least (work m r) then ⊤ else work m r n

/-- The position taken in round `r`. -/
def pick (m : Row) (r : ℕ) : Fin 2048 := least (work m r)

/-- An entry of the row after `r` rounds: plus infinity where a round took it, as it was elsewhere. -/
theorem work_eq (m : Row) (r : ℕ) (n : Fin 2048) :
    ((∃ j < r, pick m j = n) ∧ work m r n = ⊤) ∨ ((∀ j < r, pick m j ≠ n) ∧ work m r n = m n) := by
  induction r with
  | zero => exact Or.inr ⟨fun j hj => absurd hj (Nat.not_lt_zero j), rfl⟩
  | succ r ih =>
    by_cases hn : n = least (work m r)
    · exact Or.inl ⟨⟨r, Nat.lt_succ_self r, hn.symm⟩, if_pos hn⟩
    · have hw : work m (r + 1) n = work m r n := if_neg hn
      rw [hw]
      rcases ih with ⟨⟨j, hj, e⟩, h⟩ | ⟨hj, h⟩
      · exact Or.inl ⟨⟨j, Nat.lt_succ_of_lt hj, e⟩, h⟩
      · refine Or.inr ⟨fun j hlt e => ?_, h⟩
        rcases Nat.lt_succ_iff_lt_or_eq.mp hlt with h' | h'
        · exact hj j h' e
        · subst h'; exact hn e.symm

variable (m : Row) (hm : ∀ n, m n ≠ ⊤)
include hm

/-- Before 2048 rounds some entry is left. -/
theorem exists_left (r : ℕ) (hr : r < 2048) : ∃ n, work m r n ≠ ⊤ := by
  classical
  by_contra hcon
  push Not at hcon
  have hsub : (Finset.univ : Finset (Fin 2048)) ⊆ (Finset.range r).image (pick m) := fun n _ => by
    rcases work_eq m r n with ⟨⟨j, hj, e⟩, _⟩ | ⟨_, h⟩
    · exact Finset.mem_image.mpr ⟨j, Finset.mem_range.mpr hj, e⟩
    · exact absurd (h ▸ hcon n) (hm n)
  have h1 := (Finset.card_le_card hsub).trans Finset.card_image_le
  rw [Finset.card_univ, Fintype.card_fin, Finset.card_range] at h1
  omega

/-- A round takes a position no earlier round took, and finds the row's own value there. -/
theorem pick_new (r : ℕ) (hr : r < 2048) : (∀ j < r, pick m j ≠ pick m r) ∧ work m r (pick m r) = m (pick m r) := by
  obtain ⟨n, hn⟩ := exists_left m hm r hr
  rcases work_eq m r (pick m r) with ⟨_, h⟩ | h
  · have := least_le (work m r) n
    rw [pick] at h
    rw [h, top_le_iff] at this
    exact absurd this hn
  · exact h

/-- The least value of round `r` is the row's own value at the position taken. -/
theorem work_min (r : ℕ) (hr : r < 2048) : ⨅ n, work m r n = m (pick m r) := by
  rw [← least_val]; exact (pick_new m hm r hr).2

/-- The positions of different rounds differ. -/
theorem pick_ne (i j : ℕ) (hij : i < j) (hj : j < 2048) : pick m i ≠ pick m j := (pick_new m hm j hj).1 i hij

/-- A position not taken before round `r` has no smaller value than the one taken, and if its value is the same it is not before it. -/
theorem pick_first (r : ℕ) (hr : r < 2048) (p : Fin 2048) (hp : ∀ j < r, pick m j ≠ p) :
    m (pick m r) ≤ m p ∧ (m p = m (pick m r) → pick m r ≤ p) := by
  have hw : work m r p = m p := by
    rcases work_eq m r p with ⟨⟨j, hj, e⟩, _⟩ | h
    · exact absurd e (hp j hj)
    · exact h.2
  have hpick := (pick_new m hm r hr).2
  refine ⟨?_, fun h => ?_⟩
  · rw [← hw, ← hpick]; exact least_le (work m r) p
  · refine least_first (work m r) p ?_
    rw [hw, h]
    exact hpick.ge

omit hm

/-- A stable sort of positions listed in increasing order breaks ties by position: it is the sort by the comparator first, the position next. -/
theorem stableSort_position {n : Nat} (R B : Fin n → Fin n → Bool) (h : ∀ a b, a < b → R b a = B b a) :
    ∀ l : List (Fin n), l.Pairwise (· < ·) → stableSort R l = stableSort B l
  | [], _ => rfl
  | a :: l, hl => by
    rw [List.pairwise_cons] at hl
    have ih := stableSort_position R B h l hl.2
    unfold stableSort
    rw [ih]
    have hmem : ∀ b ∈ stableSort B l, a < b := fun b hb => hl.1 b ((perm_stableSort B l).mem_iff.mp hb)
    revert hmem
    generalize stableSort B l = s
    intro hmem
    induction s with
    | nil => rfl
    | cons b s ihs =>
      unfold insertBefore
      rw [h a b (hmem b (List.mem_cons_self ..)), ihs fun c hc => hmem c (List.mem_cons_of_mem _ hc)]

/-- Two comparators with the same sorted list of positions have the same sorted positions. -/
theorem sortedFrom_eq_of_positions {n : Nat} (R B : Fin n → Fin n → Bool) (h : sortPositions n R = sortPositions n B) :
    sortedFrom R = sortedFrom B := by
  funext k
  unfold sortedFrom
  simp only [List.get_eq_getElem, h, Fin.val_cast]

/-- The first ten positions of a stable sort of the scores `exp (-m)`, greatest first, are the ten positions the rounds take. -/
theorem sortedFrom_pick (x : Fin 2048 → ℝ) (R : Fin 2048 → Fin 2048 → Bool)
    (hR : ∀ a b, R a b = decide (x a < x b)) (r : Fin 10) :
    sortedFrom R (r.castLE (by omega)) = pick (fun n => (x n : EReal)) r.val := by
  set B : Fin 2048 → Fin 2048 → Bool := fun a b => decide (x a < x b) || (decide (x a = x b) && decide (a < b)) with hBdef
  have hB : StrictTotalBefore B :=
    StrictTotalBefore.of_key_then_position (fun a b : ℝ => decide (a < b)) x (fun a => by simp)
      (fun a b c h1 h2 => by simp only [decide_eq_true_eq] at *; exact h1.trans h2)
      (fun a b => by simpa only [decide_eq_true_eq] using lt_trichotomy a b)
  have hRB : sortPositions 2048 R = sortPositions 2048 B :=
    stableSort_position R B (fun a b hab => by simp [hR, hBdef, hab.le]) _ (List.pairwise_lt_finRange 2048)
  have hs : sortedFrom R = sortedFrom B := sortedFrom_eq_of_positions R B hRB
  have hm : ∀ n, (fun n => (x n : EReal)) n ≠ ⊤ := fun n => EReal.coe_ne_top _
  have key : ∀ i : Fin 10, ∀ p, (∀ j : Fin 10, j < i → pick (fun n => (x n : EReal)) j.val ≠ p) →
      B p (pick (fun n => (x n : EReal)) i.val) = false := fun i p hp => by
    have h := pick_first _ hm i.val (by omega) p fun j hj => hp ⟨j, by omega⟩ hj
    simp only [hBdef, Bool.or_eq_false_iff, Bool.and_eq_false_iff, decide_eq_false_iff_not, not_lt]
    refine ⟨EReal.coe_le_coe_iff.mp h.1, ?_⟩
    by_cases e : x p = x (pick (fun n => (x n : EReal)) i.val)
    · exact Or.inr (h.2 (congrArg _ e))
    · exact Or.inl e
  rw [hs]
  refine hB.sortedFrom_eq_of_prefix (by omega) (fun i : Fin 10 => pick (fun n => (x n : EReal)) i.val) ?_ ?_ ?_ r
  · intro i j e
    rcases lt_trichotomy i j with h | h | h
    · exact absurd e (pick_ne _ hm i.val j.val h (by omega))
    · exact h
    · exact absurd e.symm (pick_ne _ hm j.val i.val h (by omega))
  · exact fun i j hij => key i _ fun k hk => pick_ne _ hm k.val j.val (hk.trans hij) (by omega)
  · exact fun i p hp => key i p fun j _ => hp j

end Cert.Hops
-- ==== Proof.Rounds.lean ====
/-
  One round of the kernel's selection on a row of 2048 entries: the least entry, the first position holding it, and the row with plus infinity
  put there. The ten rounds are the ten picks of `Select.lean`.
-/
module

public import proofs.«01_k».proof.Proof.Gen.KernelIdeal
public import proofs.«01_k».proof.Proof.Gen.KernelIdeal.Skeleton
public import proofs.«01_k».proof.Proof.Select

@[expose] public section

set_option maxRecDepth 16384

noncomputable section

namespace Cert.Hops

open Cert.KernelIdeal Cert.KernelIdeal.Gen
open Idealize.ShloMosaic Idealize.ShloMosaic.TcCoe

/-- The positions of a row, as words. -/
def lanes : IVec S1x2048 32 := iota .tc S1x2048 32 [1] iota_S1x2048_d1_w32

/-- The least entry of a row. -/
def roundMin (w : FVec Ideal S1x2048 .f32) : Ideal .f32 :=
  extractAt ![0, 0, 0] (shapeCast S1x1x1 (multiReduction .minimumf [1, 2] S1 (shapeCast S1x1x2048 w shapeCasts_S1x2048_S1x1x2048) 0x7F800000#32
    reduces_S1x1x2048_S1 (.inl rfl) rfl) shapeCasts_S1_S1x1x1) inpos_S1x1x1_p0_0_0

/-- The least position whose entry is not above the least entry. -/
def roundSel (w : FVec Ideal S1x2048 .f32) : BitVec 32 :=
  extractAt ![0, 0, 0] (shapeCast S1x1x1 (multiReductionI .minsi [1, 2] S1 (shapeCast S1x1x2048
    (select (cmpf .ole w (broadcast S1x2048 (roundMin w))) lanes (broadcast S1x2048 2048#32)) shapeCasts_S1x2048_S1x1x2048) 2147483647#32
    reduces_S1x1x2048_S1 rfl) shapeCasts_S1_S1x1x1) inpos_S1x1x1_p0_0_0

/-- The row with plus infinity at the selected position. -/
def roundNext (w : FVec Ideal S1x2048 .f32) : FVec Ideal S1x2048 .f32 :=
  select (cmpi .eq lanes (broadcast S1x2048 (roundSel w))) (broadcast S1x2048 (Scalar.ofBits .f32 0x7F800000#32)) w

/-- The row after `r` rounds. -/
def rowAfter (w : FVec Ideal S1x2048 .f32) : ℕ → FVec Ideal S1x2048 .f32
  | 0 => w
  | r + 1 => roundNext (rowAfter w r)

/-- The least over one row written as a one-by-2048 table. -/
theorem iInf_table {ι : Type} (f : ι → EReal) : ⨅ x : Fin 1 × ι, f x.2 = ⨅ n, f n :=
  le_antisymm (le_iInf fun n => iInf_le (fun x : Fin 1 × ι => f x.2) (0, n)) (le_iInf fun x => iInf_le f x.2)

/-- The signed minimum of words, read as integers. -/
theorem toInt_minsi (a b : BitVec 32) : (IntOp.minsi a b).toInt = min a.toInt b.toInt := by
  unfold IntOp.minsi
  split <;> rename_i h <;> simp [BitVec.slt] at h <;> omega

/-- A signed minimum of words over a finite type, read as an integer. -/
theorem toInt_fold_minsi {ι : Type} [Fintype ι] (b : BitVec 32) (f : ι → BitVec 32) :
    (Finset.fold IntOp.minsi b f Finset.univ).toInt = Finset.fold min b.toInt (fun i => (f i).toInt) Finset.univ :=
  (Finset.fold_hom (m := BitVec.toInt) toInt_minsi).symm

/-- A position below 2048 as a word, read as an integer. -/
theorem toInt_pos (n : Fin 2048) : (BitVec.ofNat 32 n.val).toInt = (n.val : ℤ) := by
  rw [BitVec.toInt_eq_toNat_cond, BitVec.toNat_ofNat]
  have := n.isLt
  rw [Nat.mod_eq_of_lt (by omega)]
  split <;> omega

/-- Positions below 2048 are equal when their words are. -/
theorem word_pos_inj (a b : Fin 2048) : BitVec.ofNat 32 a.val = BitVec.ofNat 32 b.val ↔ a = b := by
  constructor
  · intro h
    have := congrArg BitVec.toInt h
    rw [toInt_pos, toInt_pos] at this
    exact Fin.ext (by exact_mod_cast this)
  · rintro rfl; rfl

/-- A choice by the equality of two words. -/
theorem select_word_eq {α : Type} (a b : BitVec 32) (x y : α) :
    Scalar.select (IntOp.cmpi .eq a b) x y = if a = b then x else y := by
  by_cases h : a = b
  · simp [IntOp.cmpi, Scalar.select, h]
  · simp [IntOp.cmpi, Scalar.select, h, beq_eq_false_iff_ne.mpr h]

/-- The least entry is the infimum. -/
theorem roundMin_eq (w : FVec Ideal S1x2048 .f32) : roundMin w = ⨅ n, w (ix2 0 n) := by
  pointwise [roundMin]
  rw [plus_inf, fold_min]
  exact iInf_table fun n => w (ix2 0 n)

/-- The selected position is the first least one. -/
theorem roundSel_eq (w : FVec Ideal S1x2048 .f32) : roundSel w = BitVec.ofNat 32 (least fun n => w (ix2 0 n)).val := by
  pointwise [roundSel, lanes]
  rw [roundMin_eq, ← least_val fun n => w (ix2 0 n)]
  apply BitVec.eq_of_toInt_eq
  rw [toInt_fold_minsi, toInt_pos]
  apply le_antisymm
  · refine Finset.fold_min_le _ |>.mpr (Or.inr ⟨(0, least fun n => w (ix2 0 n)), Finset.mem_univ _, ?_⟩)
    rw [if_pos le_rfl, toInt_pos]
  · refine (Finset.le_fold_min _).mpr ⟨?_, fun x _ => ?_⟩
    · rw [show (2147483647#32).toInt = 2147483647 by decide]; omega
    · by_cases h : w (ix2 0 x.2) ≤ w (ix2 0 (least fun n => w (ix2 0 n)))
      · rw [if_pos h, toInt_pos]
        exact_mod_cast least_first (fun n => w (ix2 0 n)) x.2 h
      · rw [if_neg h, show (2048#32).toInt = 2048 by decide]; omega

/-- The row of the next round. -/
theorem roundNext_eq (w : FVec Ideal S1x2048 .f32) (n : Fin 2048) :
    roundNext w (ix2 0 n) = if n = least (fun n => w (ix2 0 n)) then ⊤ else w (ix2 0 n) := by
  pointwise [roundNext, lanes]
  rw [plus_inf, roundSel_eq, select_word_eq]
  exact if_congr (word_pos_inj n _) rfl rfl

/-- The row after `r` rounds is the one of `Select.lean`. -/
theorem rowAfter_eq (w : FVec Ideal S1x2048 .f32) (r : ℕ) (n : Fin 2048) : rowAfter w r (ix2 0 n) = work (fun n => w (ix2 0 n)) r n := by
  induction r generalizing n with
  | zero => rfl
  | succ r ih =>
    have : (fun n => rowAfter w r (ix2 0 n)) = work (fun n => w (ix2 0 n)) r := funext ih
    rw [rowAfter, roundNext_eq, this, ih]
    rfl

/-- The position selected in round `r`. -/
theorem rowAfter_sel (w : FVec Ideal S1x2048 .f32) (r : ℕ) :
    roundSel (rowAfter w r) = BitVec.ofNat 32 (pick (fun n => w (ix2 0 n)) r).val := by
  rw [roundSel_eq, pick]
  exact congrArg (fun v => BitVec.ofNat 32 (least v).val) (funext (rowAfter_eq w r))

/-- The least entry of round `r`, for a row without plus infinity. -/
theorem rowAfter_min (w : FVec Ideal S1x2048 .f32) (hw : ∀ n, w (ix2 0 n) ≠ ⊤) (r : ℕ) (hr : r < 2048) :
    roundMin (rowAfter w r) = w (ix2 0 (pick (fun n => w (ix2 0 n)) r)) := by
  rw [roundMin_eq, iInf_congr (rowAfter_eq w r)]
  exact work_min _ hw r hr

end Cert.Hops
-- ==== Proof.Spec.lean ====
/-
  What both programs compute for one batch element, in plain terms, over real inputs: the query vectors `rel`, `a1`, `a2`, the facts' three
  vectors `fr f`, `f1 f`, `f2 f`, the entities `en n` and the two hop matrices.
-/
module

public import proofs.«01_k».proof.Proof.Select

@[expose] public section

noncomputable section

namespace Cert.Hops

open Idealize.ShloMosaic

/-- The inputs of one batch element. -/
structure Query where
  rel : Fin 64 → ℝ
  a1 : Fin 64 → ℝ
  a2 : Fin 64 → ℝ
  fr : Fin 4096 → Fin 64 → ℝ
  f1 : Fin 4096 → Fin 64 → ℝ
  f2 : Fin 4096 → Fin 64 → ℝ
  en : Fin 2048 → Fin 64 → ℝ
  W1 : Fin 64 → Fin 64 → ℝ
  W2 : Fin 64 → Fin 64 → ℝ

namespace Query

variable (Q : Query)

/-- The relation vector of the first hop. -/
def hop1 (k : Fin 64) : ℝ := ∑ j, Q.rel j * Q.W1 j k

/-- The relation vector of the second hop. -/
def hop2 (k : Fin 64) : ℝ := ∑ j, Q.rel j * Q.W2 j k

/-- The least total distance of the query itself to a fact. -/
def direct : EReal := ⨅ f, (dist Q.rel (Q.fr f) + dist Q.a1 (Q.f1 f) + dist Q.a2 (Q.f2 f))

/-- The least total distance of the first hop to a fact, with entity `n` as its object. -/
def first (n : Fin 2048) : EReal := ⨅ f, (dist Q.hop1 (Q.fr f) + dist Q.a1 (Q.f1 f) + dist (Q.en n) (Q.f2 f))

/-- The least total distance of the second hop to a fact, with entity `n` as its subject. -/
def second (n : Fin 2048) : EReal := ⨅ f, (dist Q.hop2 (Q.fr f) + dist (Q.en n) (Q.f1 f) + dist Q.a2 (Q.f2 f))

/-- The entity of the `r`-th branch: the `r`-th nearest of the first hop. -/
def branch (r : Fin 10) : Fin 2048 := pick Q.first r.val

/-- The score: the better of the direct one and the best of the ten branches, a branch being as good as the worse of its two hops. -/
def score : EReal := Ideal.exp (-(min Q.direct (⨅ r, max (Q.first (Q.branch r)) (Q.second (Q.branch r)))))

/-- The least of finitely many real numbers is a real number. -/
theorem iInf_real {ι : Type} [Finite ι] [Nonempty ι] (g : ι → EReal) (hg : ∀ i, ∃ x : ℝ, g i = (x : EReal)) :
    ∃ x : ℝ, ⨅ i, g i = (x : EReal) := by
  obtain ⟨i, hi⟩ := exists_eq_ciInf_of_finite (f := g)
  obtain ⟨x, hx⟩ := hg i
  exact ⟨x, hi.symm.trans hx⟩

/-- A sum of three distances is a real number. -/
theorem three_real (p q r p' q' r' : Fin 64 → ℝ) : ∃ x : ℝ, dist p p' + dist q q' + dist r r' = (x : EReal) := by
  obtain ⟨x, hx⟩ := dist_coe p p'
  obtain ⟨y, hy⟩ := dist_coe q q'
  obtain ⟨z, hz⟩ := dist_coe r r'
  exact ⟨x + y + z, by rw [hx, hy, hz, EReal.coe_add, EReal.coe_add]⟩

/-- The first hop's least distances are real numbers. -/
theorem first_real (n : Fin 2048) : ∃ x : ℝ, Q.first n = (x : EReal) :=
  iInf_real _ fun _ => three_real _ _ _ _ _ _

/-- The first hop's least distances as real numbers. -/
def firstR (n : Fin 2048) : ℝ := (Q.first_real n).choose

/-- They are those numbers. -/
theorem first_eq (n : Fin 2048) : Q.first n = (Q.firstR n : EReal) := (Q.first_real n).choose_spec

/-- The first hop's least distances are not plus infinity. -/
theorem first_ne_top (n : Fin 2048) : Q.first n ≠ ⊤ := by rw [first_eq]; exact EReal.coe_ne_top _

end Query

end Cert.Hops
-- ==== Proof.Block.lean ====
/-
  What the kernel's body writes for one batch element, put together from named parts: the row of least distances, the ten rounds, the ten
  branches and the final score.
-/
module

public import proofs.«01_k».proof.Proof.Rounds
public import proofs.«01_k».proof.Proof.Spec
public import proofs.«01_k».proof.Proof.Gen.KernelIdeal.Frame
public import Idealize.ShloMosaic.Lib.Pipeline.Value

@[expose] public section

set_option maxRecDepth 16384

noncomputable section

namespace Cert.Hops

open Cert.KernelIdeal Cert.KernelIdeal.Gen
open Idealize.ShloMosaic Idealize.ShloMosaic.TcCoe

/-- A one-by-one table holding `x`, as the kernel makes one of a real number. -/
def cellF (x : Ideal .f32) : FVec Ideal S1x1 .f32 := mulf (broadcast S1x1 x) (k0_pay14 (F := Ideal))

/-- A one-by-one table holding `x`, as the kernel makes one of a word. -/
def cellI (x : BitVec 32) : IVec S1x1 32 := muli (broadcast S1x1 x) k0_pay27

/-- The column of the ten rounds' least entries, filled up with plus infinity to sixteen. -/
def minColumn (μ : ℕ → Ideal .f32) : FVec Ideal S16x1 .f32 :=
  concatenate S16x1 0 [⟨S1x1, cellF (μ 0)⟩, ⟨S1x1, cellF (μ 1)⟩, ⟨S1x1, cellF (μ 2)⟩, ⟨S1x1, cellF (μ 3)⟩, ⟨S1x1, cellF (μ 4)⟩,
    ⟨S1x1, cellF (μ 5)⟩, ⟨S1x1, cellF (μ 6)⟩, ⟨S1x1, cellF (μ 7)⟩, ⟨S1x1, cellF (μ 8)⟩, ⟨S1x1, cellF (μ 9)⟩,
    ⟨S6x1, broadcast S6x1 (Scalar.ofBits .f32 0x7F800000#32)⟩]
    concatenates_S1x1_S1x1_S1x1_S1x1_S1x1_S1x1_S1x1_S1x1_S1x1_S1x1_S6x1_S16x1_d0

/-- The column of the ten rounds' positions, filled up with 2048 to sixteen. -/
def posColumn (σ : ℕ → BitVec 32) : IVec S16x1 32 :=
  concatenate S16x1 0 [⟨S1x1, cellI (σ 0)⟩, ⟨S1x1, cellI (σ 1)⟩, ⟨S1x1, cellI (σ 2)⟩, ⟨S1x1, cellI (σ 3)⟩, ⟨S1x1, cellI (σ 4)⟩,
    ⟨S1x1, cellI (σ 5)⟩, ⟨S1x1, cellI (σ 6)⟩, ⟨S1x1, cellI (σ 7)⟩, ⟨S1x1, cellI (σ 8)⟩, ⟨S1x1, cellI (σ 9)⟩,
    ⟨S6x1, broadcast S6x1 2048#32⟩]
    concatenates_S1x1_S1x1_S1x1_S1x1_S1x1_S1x1_S1x1_S1x1_S1x1_S1x1_S6x1_S16x1_d0

/-- The rows of the entity table at the sixteen positions, by a product with a table of zeros and ones. -/
def taken (v13 : FVec Ideal S2048x64 .f32) (p : IVec S16x1 32) : FVec Ideal S16x64 .f32 :=
  matmul dot_S16x2048_S2048x64_S16x64_1_0_0_1_n_n none
    (sitofp .f32 (extui 32 (cmpi .eq (iota .tc S16x2048 32 [1] iota_S16x2048_d1_w32) (broadcastTo S16x2048 p broadcasts_S16x1_S16x2048)) natLt_1_32))
    v13 (constant S16x64 .f32 0x00000000#32)

/-- The least total distance of each of sixteen vectors `z` to the facts. -/
def branchColumn (v26 : FVec Ideal S4096x66 .f32) (v91 : FVec Ideal S1x4096 .f32) (z : FVec Ideal S16x64 .f32) : FVec Ideal S16x1 .f32 :=
  shapeCast S16x1 (multiReduction .minimumf [1] S16 (addf (broadcastTo S16x4096 v91 broadcasts_S1x4096_S16x4096)
    (sqrt (maximumf (matmul dot_S16x66_S4096x66_S16x4096_1_1_0_0_n_n none
      (concatenate S16x66 1 [⟨S16x64, mulf (broadcast S16x64 (Scalar.ofBits .f32 0xC0000000#32)) z⟩,
        ⟨S16x1, broadcast S16x1 (Scalar.ofBits .f32 0x3F800000#32)⟩,
        ⟨S16x1, shapeCast S16x1 (multiReduction .add [1] S16 (mulf z z) 0x00000000#32 reduces_S16x64_S16 (.inl rfl) rfl) shapeCasts_S16_S16x1⟩]
        concatenates_S16x64_S16x1_S16x1_S16x66_d1)
      v26 (constant S16x4096 .f32 0x00000000#32)) (broadcast S16x4096 (Scalar.ofBits .f32 0x2B8CBCCC#32)))))
    0x7F800000#32 reduces_S16x4096_S16 (.inl rfl) rfl) shapeCasts_S16_S16x1

/-- The score from the direct distance `d`, the rounds' least entries and the branches' distances. -/
def finish (d : Ideal .f32) (a b : FVec Ideal S16x1 .f32) : FVec Ideal S1x1x1 .f32 :=
  shapeCast S1x1x1 (mulf (broadcast S1x1 (Scalar.exp (Scalar.subf (Scalar.ofBits .f32 0x00000000#32) (Scalar.minimumf d
    (extractAt ![0, 0, 0] (shapeCast S1x1x1 (multiReduction .minimumf [1, 2] S1 (shapeCast S1x16x1 (maximumf a b) shapeCasts_S16x1_S1x16x1)
      0x7F800000#32 reduces_S1x16x1_S1 (.inl rfl) rfl) shapeCasts_S1_S1x1x1) inpos_S1x1x1_p0_0_0)))))
    (broadcast S1x1 (Scalar.ofBits .f32 0x3F800000#32))) shapeCasts_S1x1_S1x1x1

/-- An entry of the column of least entries. -/
theorem minColumn_apply (μ : ℕ → Ideal .f32) (r : Fin 16) : minColumn μ (ix2 r 0) = if r.val < 10 then μ r.val else ⊤ := by
  pointwise [minColumn, cellF, k0_pay14]
  rw [plus_inf]
  obtain ⟨r, hr⟩ := r
  interval_cases r <;> simp

/-- An entry of the column of positions. -/
theorem posColumn_apply (σ : ℕ → BitVec 32) (r : Fin 16) : posColumn σ (ix2 r 0) = if r.val < 10 then σ r.val else 2048#32 := by
  pointwise [posColumn, cellI, k0_pay27]
  obtain ⟨r, hr⟩ := r
  interval_cases r <;> simp [IntOp.muli]

/-- The word of a comparison for equality, widened and made a real number: one or zero. -/
theorem one_hot (a b : BitVec 32) :
    (FloatOps.sitofp .f32 (BitVec.setWidth 32 (IntOp.cmpi .eq a b)) : Ideal .f32) = if a = b then (1 : EReal) else 0 := by
  show (((BitVec.setWidth 32 (IntOp.cmpi .eq a b)).toInt : ℝ) : EReal) = _
  by_cases h : a = b
  · simp [IntOp.cmpi, h]
  · simp [IntOp.cmpi, h, beq_eq_false_iff_ne.mpr h]

/-- A row of the taken entities, at a position of the table. -/
theorem taken_apply (v13 : FVec Ideal S2048x64 .f32) (p : IVec S16x1 32) (r : Fin 16) (k : Fin 64) (n : Fin 2048)
    (hp : p (ix2 r 0) = BitVec.ofNat 32 n.val) : taken v13 p (ix2 r k) = v13 (ix2 n k) := by
  pointwise [taken]
  rw [hp, Finset.sum_eq_single n]
  · rw [one_hot, if_pos rfl, one_mul]
  · intro x _ hx
    rw [one_hot, if_neg fun h => hx ((word_pos_inj x n).mp h), zero_mul]
  · exact fun h => absurd (Finset.mem_univ n) h

/-- An entry of the branches' column. -/
theorem branchColumn_apply (v26 : FVec Ideal S4096x66 .f32) (v91 : FVec Ideal S1x4096 .f32) (z : FVec Ideal S16x64 .f32) (r : Fin 16) :
    branchColumn v26 v91 z (ix2 r 0) = ⨅ f, (v91 (ix2 0 f) + Ideal.sqrt (max (∑ k, wideQ (fun x => z (ix2 r x)) k * v26 (ix2 f k)) eps)) := by
  pointwise [branchColumn]
  rw [plus_inf, fold_min]
  rfl

/-- The least over a column written as a table of one column. -/
theorem iInf_column {ι : Type} (f : ι → EReal) : ⨅ x : ι × Fin 1, f x.1 = ⨅ n, f n :=
  le_antisymm (le_iInf fun n => iInf_le (fun x : ι × Fin 1 => f x.1) (n, 0)) (le_iInf fun x => iInf_le f x.1)

/-- The one entry of the result. -/
theorem finish_apply (d : Ideal .f32) (a b : FVec Ideal S16x1 .f32) (i : S1x1x1.Idx) :
    finish d a b i = Ideal.exp (-(min d (⨅ r, max (a (ix2 r 0)) (b (ix2 r 0))))) := by
  idx_vars i
  pointwise [finish]
  rw [plus_inf, fold_min, zero_sub]
  exact congrArg (fun x => Ideal.exp (-min d x)) (iInf_column fun r => max (a (ix2 r 0)) (b (ix2 r 0)))

section

variable (x0 x1 x2 : Vec Ideal S1x1x64 .f32) (x3 x4 x5 : Vec Ideal S1x4096x64 .f32) (x6 : Vec Ideal S1x2048x64 .f32) (x7 x8 : Vec Ideal S64x64 .f32)

/-- The row of least distances of the first hop, as the body computes it. -/
abbrev row : FVec Ideal S1x2048 .f32 := k0_pay80 x0 x1 x2 x3 x4 x5 x6 x7 x8

/-- The body's result from its parts. -/
theorem out_parts : out0_9 x0 x1 x2 x3 x4 x5 x6 x7 x8 = View.canon [⟨r0_4, finish
    (k0_pay21 (k0_pay69 x0 x1 x2 x3 x4 x5 x6 x7 x8) (k0_pay70 x0 x1 x2 x3 x4 x5 x6 x7 x8) (k0_pay74 x0 x1 x2 x3 x4 x5 x6 x7 x8)
      (k0_pay75 x0 x1 x2 x3 x4 x5 x6 x7 x8) (k0_pay19 (k0_pay2 (View.ld x0 r0_0)) (k0_pay68 x0 x1 x2 x3 x4 x5 x6 x7 x8)))
    (minColumn fun r => roundMin (rowAfter (row x0 x1 x2 x3 x4 x5 x6 x7 x8) r))
    (branchColumn (k0_pay69 x0 x1 x2 x3 x4 x5 x6 x7 x8)
      (k0_pay22 (k0_pay68 x0 x1 x2 x3 x4 x5 x6 x7 x8) (k0_pay70 x0 x1 x2 x3 x4 x5 x6 x7 x8)
        (k0_pay16 (k0_pay8 (View.ld x0 r0_0) (View.ld x8 r0_3))) (k0_pay75 x0 x1 x2 x3 x4 x5 x6 x7 x8))
      (taken (k0_pay67 x0 x1 x2 x3 x4 x5 x6 x7 x8) (posColumn fun r => roundSel (rowAfter (row x0 x1 x2 x3 x4 x5 x6 x7 x8) r))))⟩] := by
  rfl

end

end Cert.Hops
-- ==== Proof.Values.lean ====
/-
  The kernel's body over real inputs: every widened vector, every distance, the row of least distances, and the score it writes.
-/
module

public import proofs.«01_k».proof.Proof.Block

@[expose] public section

set_option maxRecDepth 16384

noncomputable section

namespace Cert.Hops

open Cert.KernelIdeal Cert.KernelIdeal.Gen
open Idealize.ShloMosaic Idealize.ShloMosaic.TcCoe

/-- The facts' first vectors, widened. -/
theorem pay10_apply (v : Vec Ideal S1x4096x64 .f32) (f : Fin 4096) (k : Fin 66) :
    k0_pay10 (F := Ideal) v (ix2 f k) = wideF (fun x => v (ix3 0 f x)) k := by
  pointwise [k0_pay10, k0_pay9]
  rfl

/-- The facts' second vectors, widened. -/
theorem pay11_apply (v : Vec Ideal S1x4096x64 .f32) (f : Fin 4096) (k : Fin 66) :
    k0_pay11 (F := Ideal) v (ix2 f k) = wideF (fun x => v (ix3 0 f x)) k := by
  pointwise [k0_pay11, k0_pay9]
  rfl

/-- The facts' third vectors, widened. -/
theorem pay12_apply (v : Vec Ideal S1x4096x64 .f32) (f : Fin 4096) (k : Fin 66) :
    k0_pay12 (F := Ideal) (k0_pay5 v) k0_pay9 (ix2 f k) = wideF (fun x => v (ix3 0 f x)) k := by
  pointwise [k0_pay12, k0_pay9, k0_pay5]
  rfl

/-- The entities, widened the other way. -/
theorem pay13_apply (v : FVec Ideal S2048x64 .f32) (n : Fin 2048) (k : Fin 66) :
    k0_pay13 (F := Ideal) v (ix2 n k) = wideQ (fun x => v (ix2 n x)) k := by
  pointwise [k0_pay13]
  rfl

/-- The entities' table. -/
theorem pay6_apply (v : Vec Ideal S1x2048x64 .f32) (n : Fin 2048) (k : Fin 64) : k0_pay6 (F := Ideal) v (ix2 n k) = v (ix3 0 n k) := by
  pointwise [k0_pay6]

/-- The first hop's vector, widened. -/
theorem pay15_apply (v : FVec Ideal S1x64 .f32) (k : Fin 66) :
    k0_pay15 (F := Ideal) v (ix2 0 k) = wideQ (fun x => v (ix2 0 x)) k := by
  pointwise [k0_pay15, k0_pay14]
  rfl

/-- The second hop's vector, widened. -/
theorem pay16_apply (v : FVec Ideal S1x64 .f32) (k : Fin 66) :
    k0_pay16 (F := Ideal) v (ix2 0 k) = wideQ (fun x => v (ix2 0 x)) k := by
  pointwise [k0_pay16, k0_pay14]
  rfl

/-- The second query vector, widened. -/
theorem pay17_apply (v : Vec Ideal S1x1x64 .f32) (k : Fin 66) :
    k0_pay17 (F := Ideal) (k0_pay3 v) (ix2 0 k) = wideQ (fun x => v (ix3 0 0 x)) k := by
  pointwise [k0_pay17, k0_pay14, k0_pay3]
  rfl

/-- The third query vector, widened. -/
theorem pay18_apply (v : Vec Ideal S1x1x64 .f32) (k : Fin 66) :
    k0_pay18 (F := Ideal) (k0_pay4 v) (ix2 0 k) = wideQ (fun x => v (ix3 0 0 x)) k := by
  pointwise [k0_pay18, k0_pay14, k0_pay4]
  rfl

/-- The first hop's vector. -/
theorem pay7_apply (v : Vec Ideal S1x1x64 .f32) (w : Vec Ideal S64x64 .f32) (k : Fin 64) :
    k0_pay7 (F := Ideal) v w (ix2 0 k) = ∑ j, v (ix3 0 0 j) * w (ix2 j k) := by
  pointwise [k0_pay7, k0_pay2]

/-- The second hop's vector. -/
theorem pay8_apply (v : Vec Ideal S1x1x64 .f32) (w : Vec Ideal S64x64 .f32) (k : Fin 64) :
    k0_pay8 (F := Ideal) v w (ix2 0 k) = ∑ j, v (ix3 0 0 j) * w (ix2 j k) := by
  pointwise [k0_pay8, k0_pay2]

/-- The widened product of the relation vector with a fact. -/
theorem pay19_apply (v : Vec Ideal S1x1x64 .f32) (w : FVec Ideal S4096x66 .f32) (f : Fin 4096) :
    k0_pay19 (F := Ideal) (k0_pay2 v) w (ix2 0 f) = ∑ k, wideQ (fun x => v (ix3 0 0 x)) k * w (ix2 f k) := by
  pointwise [k0_pay19, k0_pay14, k0_pay2]
  rfl

/-- The least total distance of the query. -/
theorem pay21_apply (a b : FVec Ideal S4096x66 .f32) (c d : FVec Ideal S1x66 .f32) (e : FVec Ideal S1x4096 .f32) :
    k0_pay21 (F := Ideal) a b c d e = ⨅ f, (Ideal.sqrt (max (e (ix2 0 f)) eps)
      + Ideal.sqrt (max (∑ k, c (ix2 0 k) * a (ix2 f k)) eps) + Ideal.sqrt (max (∑ k, d (ix2 0 k) * b (ix2 f k)) eps)) := by
  pointwise [k0_pay21, k0_pay20]
  rw [plus_inf, fold_min]
  exact iInf_table fun f => (Ideal.sqrt (max (e (ix2 0 f)) eps)
      + Ideal.sqrt (max (∑ k, c (ix2 0 k) * a (ix2 f k)) eps) + Ideal.sqrt (max (∑ k, d (ix2 0 k) * b (ix2 f k)) eps))

/-- The second hop's part without the branch. -/
theorem pay22_apply (a b : FVec Ideal S4096x66 .f32) (c d : FVec Ideal S1x66 .f32) (f : Fin 4096) :
    k0_pay22 (F := Ideal) a b c d (ix2 0 f) = Ideal.sqrt (max (∑ k, c (ix2 0 k) * a (ix2 f k)) eps)
      + Ideal.sqrt (max (∑ k, d (ix2 0 k) * b (ix2 f k)) eps) := by
  pointwise [k0_pay22, k0_pay20]

/-- The first hop's part without the entity. -/
theorem pay23_apply (a b : FVec Ideal S4096x66 .f32) (c d : FVec Ideal S1x66 .f32) (f : Fin 4096) :
    k0_pay23 (F := Ideal) a b c d (ix2 f 0) = Ideal.sqrt (max (∑ k, a (ix2 f k) * c (ix2 0 k)) eps)
      + Ideal.sqrt (max (∑ k, b (ix2 f k) * d (ix2 0 k)) eps) := by
  pointwise [k0_pay23]

/-- The least total distances over one quarter of the facts, from their part of the widened table, the entities and their part of the
    entity-free distances. -/
def quarter (a : FVec Ideal S1024x66 .f32) (b : FVec Ideal S2048x66 .f32) (c : FVec Ideal S1024x1 .f32) : FVec Ideal S1x2048 .f32 :=
  shapeCast S1x2048 (multiReduction .minimumf [0] S2048
    (addf (sqrt (maximumf (matmul dot_S1024x66_S2048x66_S1024x2048_1_1_0_0_n_n none a b (constant S1024x2048 .f32 0x00000000#32))
        (broadcast S1024x2048 (Scalar.ofBits .f32 0x2B8CBCCC#32))))
      (broadcastTo S1024x2048 c broadcasts_S1024x1_S1024x2048))
    0x7F800000#32 reduces_S1024x2048_S2048 (.inl rfl) rfl) shapeCasts_S2048_S1x2048

/-- An entry of a quarter's row. -/
theorem quarter_apply (a : FVec Ideal S1024x66 .f32) (b : FVec Ideal S2048x66 .f32) (c : FVec Ideal S1024x1 .f32) (n : Fin 2048) :
    quarter a b c (ix2 0 n) = ⨅ x : Fin 1024, (Ideal.sqrt (max (∑ k, a (ix2 x k) * b (ix2 n k)) eps) + c (ix2 x 0)) := by
  pointwise [quarter]
  rw [plus_inf, fold_min]

/-- The total distance of fact `f` with entity `n`, read from the widened tables. -/
def total (a : FVec Ideal S4096x66 .f32) (b : FVec Ideal S2048x66 .f32) (c : FVec Ideal S4096x1 .f32) (n : Fin 2048) (f : Fin 4096) : EReal :=
  Ideal.sqrt (max (∑ k, a (ix2 f k) * b (ix2 n k)) eps) + c (ix2 f 0)

/-- The quarter that starts at fact `o`. -/
theorem quarter_slice (a : FVec Ideal S4096x66 .f32) (b : FVec Ideal S2048x66 .f32) (c : FVec Ideal S4096x1 .f32) (n : Fin 2048)
    (o : ℕ) (ho : o + 1024 ≤ 4096) (ha : S4096x66.Slices ![o, 0] S1024x66) (hc : S4096x1.Slices ![o, 0] S1024x1) :
    quarter (extractStridedSlice S1024x66 ![o, 0] a ha) b (extractStridedSlice S1024x1 ![o, 0] c hc) (ix2 0 n)
      = ⨅ x : Fin 1024, total a b c n ⟨o + x.val, by omega⟩ := by
  rw [quarter_apply]
  refine iInf_congr fun x => ?_
  have h1 : ∀ k, extractStridedSlice S1024x66 ![o, 0] a ha (ix2 x k) = a (ix2 ⟨o + x.val, by omega⟩ k) := fun k => by pointwise
  have h2 : extractStridedSlice S1024x1 ![o, 0] c hc (ix2 x 0) = c (ix2 ⟨o + x.val, by omega⟩ 0) := by pointwise
  rw [h2, Finset.sum_congr rfl fun k _ => by rw [h1 k]]
  rfl

/-- The first quarter's row. -/
def firstQuarter (a : FVec Ideal S4096x66 .f32) (b : FVec Ideal S2048x66 .f32) (c : FVec Ideal S4096x1 .f32) : FVec Ideal S1x2048 .f32 :=
  minimumf (broadcast S1x2048 (Scalar.ofBits .f32 0x7F800000#32))
    (quarter (extractStridedSlice S1024x66 ![0, 0] a slices_S4096x66_o0_0_S1024x66) b (extractStridedSlice S1024x1 ![0, 0] c slices_S4096x1_o0_0_S1024x1))

/-- The first quarter's row is the payload's. -/
theorem pay24_eq (a b c : FVec Ideal S4096x66 .f32) (e : FVec Ideal S2048x66 .f32) (p q : FVec Ideal S1x66 .f32) :
    k0_pay24 (F := Ideal) a b c e p q = firstQuarter c e (k0_pay23 a b p q) := rfl

/-- The whole row is put together from the four quarters. -/
theorem pay26_eq (a : FVec Ideal S4096x66 .f32) (b : FVec Ideal S2048x66 .f32) (c : FVec Ideal S4096x1 .f32) :
    k0_pay26 (F := Ideal) a b c (firstQuarter a b c) (k0_pay25 a) = minimumf (minimumf (minimumf (firstQuarter a b c)
      (quarter (extractStridedSlice S1024x66 ![1024, 0] a slices_S4096x66_o1024_0_S1024x66) b
        (extractStridedSlice S1024x1 ![1024, 0] c slices_S4096x1_o1024_0_S1024x1)))
      (quarter (extractStridedSlice S1024x66 ![2048, 0] a slices_S4096x66_o2048_0_S1024x66) b
        (extractStridedSlice S1024x1 ![2048, 0] c slices_S4096x1_o2048_0_S1024x1)))
      (quarter (extractStridedSlice S1024x66 ![3072, 0] a slices_S4096x66_o3072_0_S1024x66) b
        (extractStridedSlice S1024x1 ![3072, 0] c slices_S4096x1_o3072_0_S1024x1)) := rfl

/-- The least over four quarters is the least over all. -/
theorem iInf_quarters (g : Fin 4096 → EReal) :
    min (min (min (⨅ x : Fin 1024, g ⟨0 + x.val, by omega⟩) (⨅ x : Fin 1024, g ⟨1024 + x.val, by omega⟩)) (⨅ x : Fin 1024, g ⟨2048 + x.val, by omega⟩))
      (⨅ x : Fin 1024, g ⟨3072 + x.val, by omega⟩) = ⨅ f, g f := by
  apply le_antisymm
  · refine le_iInf fun f => ?_
    by_cases h1 : f.val < 1024
    · refine (min_le_left _ _).trans ((min_le_left _ _).trans ((min_le_left _ _).trans ((iInf_le _ (⟨f.val, h1⟩ : Fin 1024)).trans_eq ?_)))
      exact congrArg g (Fin.ext (Nat.zero_add _))
    by_cases h2 : f.val < 2048
    · refine (min_le_left _ _).trans ((min_le_left _ _).trans ((min_le_right _ _).trans ((iInf_le _ (⟨f.val - 1024, by omega⟩ : Fin 1024)).trans_eq ?_)))
      exact congrArg g (Fin.ext (by show 1024 + (f.val - 1024) = f.val; omega))
    by_cases h3 : f.val < 3072
    · refine (min_le_left _ _).trans ((min_le_right _ _).trans ((iInf_le _ (⟨f.val - 2048, by omega⟩ : Fin 1024)).trans_eq ?_))
      exact congrArg g (Fin.ext (by show 2048 + (f.val - 2048) = f.val; omega))
    · refine (min_le_right _ _).trans ((iInf_le _ (⟨f.val - 3072, by omega⟩ : Fin 1024)).trans_eq ?_)
      exact congrArg g (Fin.ext (by show 3072 + (f.val - 3072) = f.val; omega))
  · exact le_min (le_min (le_min (le_iInf fun _ => iInf_le _ _) (le_iInf fun _ => iInf_le _ _)) (le_iInf fun _ => iInf_le _ _))
      (le_iInf fun _ => iInf_le _ _)

/-- The least of four rows, started at plus infinity, entry by entry. -/
theorem min4_apply (p q r s : FVec Ideal S1x2048 .f32) (n : Fin 2048) :
    minimumf (minimumf (minimumf (minimumf (broadcast S1x2048 (Scalar.ofBits .f32 0x7F800000#32)) p) q) r) s (ix2 0 n)
      = min (min (min (p (ix2 0 n)) (q (ix2 0 n))) (r (ix2 0 n))) (s (ix2 0 n)) := by
  pointwise
  rw [plus_inf, top_inf_eq]

/-- An entry of the whole row: the least total distance over all facts. -/
theorem pay26_apply (a : FVec Ideal S4096x66 .f32) (b : FVec Ideal S2048x66 .f32) (c : FVec Ideal S4096x1 .f32) (n : Fin 2048) :
    k0_pay26 (F := Ideal) a b c (firstQuarter a b c) (k0_pay25 a) (ix2 0 n) = ⨅ f, total a b c n f := by
  have h0 := quarter_slice a b c n 0 (by omega) slices_S4096x66_o0_0_S1024x66 slices_S4096x1_o0_0_S1024x1
  have h1 := quarter_slice a b c n 1024 (by omega) slices_S4096x66_o1024_0_S1024x66 slices_S4096x1_o1024_0_S1024x1
  have h2 := quarter_slice a b c n 2048 (by omega) slices_S4096x66_o2048_0_S1024x66 slices_S4096x1_o2048_0_S1024x1
  have h3 := quarter_slice a b c n 3072 (by omega) slices_S4096x66_o3072_0_S1024x66 slices_S4096x1_o3072_0_S1024x1
  rw [pay26_eq, firstQuarter, min4_apply, h0, h1, h2, h3]
  exact iInf_quarters (total a b c n)

section

variable (Q : Query)
variable (x0 x1 x2 : Vec Ideal S1x1x64 .f32) (x3 x4 x5 : Vec Ideal S1x4096x64 .f32) (x6 : Vec Ideal S1x2048x64 .f32) (x7 x8 : Vec Ideal S64x64 .f32)

/-- The blocks hold the inputs `Q`. -/
structure Holds : Prop where
  rel : ∀ k, x0 (ix3 0 0 k) = (Q.rel k : EReal)
  a1 : ∀ k, x1 (ix3 0 0 k) = (Q.a1 k : EReal)
  a2 : ∀ k, x2 (ix3 0 0 k) = (Q.a2 k : EReal)
  fr : ∀ f k, x3 (ix3 0 f k) = (Q.fr f k : EReal)
  f1 : ∀ f k, x4 (ix3 0 f k) = (Q.f1 f k : EReal)
  f2 : ∀ f k, x5 (ix3 0 f k) = (Q.f2 f k : EReal)
  en : ∀ n k, x6 (ix3 0 n k) = (Q.en n k : EReal)
  W1 : ∀ j k, x7 (ix2 j k) = (Q.W1 j k : EReal)
  W2 : ∀ j k, x8 (ix2 j k) = (Q.W2 j k : EReal)

variable (H : Holds Q x0 x1 x2 x3 x4 x5 x6 x7 x8)
include H

/-- The first hop's vector is a real vector. -/
theorem hop1_real : (fun k => k0_pay7 (F := Ideal) x0 x7 (ix2 0 k)) = fun k => (Q.hop1 k : EReal) := by
  funext k
  rw [pay7_apply, Query.hop1, ← dot_coe]
  exact Finset.sum_congr rfl fun j _ => by rw [H.rel, H.W1]

/-- The second hop's vector is a real vector. -/
theorem hop2_real : (fun k => k0_pay8 (F := Ideal) x0 x8 (ix2 0 k)) = fun k => (Q.hop2 k : EReal) := by
  funext k
  rw [pay8_apply, Query.hop2, ← dot_coe]
  exact Finset.sum_congr rfl fun j _ => by rw [H.rel, H.W2]

/-- The direct distance. -/
theorem direct_eq :
    k0_pay21 (F := Ideal) (k0_pay11 x4) (k0_pay12 (k0_pay5 x5) k0_pay9) (k0_pay17 (k0_pay3 x1)) (k0_pay18 (k0_pay4 x2)) (k0_pay19 (k0_pay2 x0) (k0_pay10 x3)) = Q.direct := by
  rw [pay21_apply, Query.direct]
  refine iInf_congr fun f => ?_
  simp only [pay19_apply, pay10_apply, pay11_apply, pay12_apply, pay17_apply, pay18_apply, H.rel, H.a1, H.a2, H.fr, H.f1, H.f2, wide_dot]
  rfl

/-- The second hop's part without the branch. -/
theorem second_part (f : Fin 4096) :
    k0_pay22 (F := Ideal) (k0_pay10 x3) (k0_pay12 (k0_pay5 x5) k0_pay9) (k0_pay16 (k0_pay8 x0 x8)) (k0_pay18 (k0_pay4 x2)) (ix2 0 f)
      = dist Q.hop2 (Q.fr f) + dist Q.a2 (Q.f2 f) := by
  rw [pay22_apply]
  simp only [pay10_apply, pay12_apply, pay16_apply, pay18_apply, hop2_real Q x0 x1 x2 x3 x4 x5 x6 x7 x8 H, H.a2, H.fr, H.f2, wide_dot]
  rfl

/-- The row of the first hop's least distances. -/
theorem row_eq (n : Fin 2048) :
    k0_pay26 (F := Ideal) (k0_pay12 (k0_pay5 x5) k0_pay9) (k0_pay13 (k0_pay6 x6))
      (k0_pay23 (k0_pay10 x3) (k0_pay11 x4) (k0_pay15 (k0_pay7 x0 x7)) (k0_pay17 (k0_pay3 x1)))
      (k0_pay24 (k0_pay10 x3) (k0_pay11 x4) (k0_pay12 (k0_pay5 x5) k0_pay9) (k0_pay13 (k0_pay6 x6)) (k0_pay15 (k0_pay7 x0 x7)) (k0_pay17 (k0_pay3 x1)))
      (k0_pay25 (k0_pay12 (k0_pay5 x5) k0_pay9)) (ix2 0 n) = Q.first n := by
  rw [pay24_eq, pay26_apply, Query.first]
  refine iInf_congr fun f => ?_
  rw [total, pay23_apply, add_comm]
  simp only [pay10_apply, pay11_apply, pay12_apply, pay13_apply, pay6_apply, pay15_apply, pay17_apply, hop1_real Q x0 x1 x2 x3 x4 x5 x6 x7 x8 H,
    H.a1, H.fr, H.f1, H.f2, H.en, wide_dot']
  rfl

end

end Cert.Hops
-- ==== Proof.Score.lean ====
/-
  The value that the kernel's body writes for one batch element: over real inputs, the score of `Spec`.
-/
module

public import proofs.«01_k».proof.Proof.Values

@[expose] public section

set_option maxRecDepth 16384

noncomputable section

namespace Cert.Hops

open Cert.KernelIdeal Cert.KernelIdeal.Gen
open Idealize.ShloMosaic Idealize.ShloMosaic.TcCoe

/-- The start of a whole-array rectangle of two axes. -/
theorem start2 : (![0, 0] : Fin 2 → Nat) = fun _ => 0 := funext fun a => by fin_cases a <;> rfl

/-- The start of a whole-array rectangle of three axes. -/
theorem start3 : (![0, 0, 0] : Fin 3 → Nat) = fun _ => 0 := funext fun a => by fin_cases a <;> rfl

/-- Reading the whole of a vector's block reads the block. -/
theorem ld_vector (x : Vec Ideal S1x1x64 .f32) : View.ld x r0_0 = x := View.ld_unit_zero start3 _ x

/-- Reading the whole of a facts' block reads the block. -/
theorem ld_facts (x : Vec Ideal S1x4096x64 .f32) : View.ld x r0_1 = x := View.ld_unit_zero start3 _ x

/-- Reading the whole of the entities' block reads the block. -/
theorem ld_entities (x : Vec Ideal S1x2048x64 .f32) : View.ld x r0_2 = x := View.ld_unit_zero start3 _ x

/-- Reading the whole of a matrix reads the matrix. -/
theorem ld_matrix (x : Vec Ideal S64x64 .f32) : View.ld x r0_3 = x := View.ld_unit_zero start2 _ x

/-- Of sixteen rows, the least value is that of the first ten when the others are plus infinity. -/
theorem iInf_sixteen (u : Fin 16 → EReal) (v : Fin 10 → EReal) (hv : ∀ (r : Fin 16) (h : r.val < 10), u r = v ⟨r.val, h⟩)
    (ht : ∀ r : Fin 16, ¬ r.val < 10 → u r = ⊤) : ⨅ r, u r = ⨅ r, v r := by
  apply le_antisymm
  · exact le_iInf fun r => (iInf_le u (⟨r.val, by omega⟩ : Fin 16)).trans_eq (hv _ r.isLt)
  · refine le_iInf fun r => ?_
    by_cases h : r.val < 10
    · exact (iInf_le v ⟨r.val, h⟩).trans_eq (hv r h).symm
    · rw [ht r h]; exact le_top

section

variable (Q : Query) (x0 x1 x2 : Vec Ideal S1x1x64 .f32) (x3 x4 x5 : Vec Ideal S1x4096x64 .f32) (x6 : Vec Ideal S1x2048x64 .f32)
  (x7 x8 : Vec Ideal S64x64 .f32) (H : Holds Q x0 x1 x2 x3 x4 x5 x6 x7 x8)
include H

/-- The row that the rounds start from holds the first hop's least distances. -/
theorem row_first (n : Fin 2048) : row x0 x1 x2 x3 x4 x5 x6 x7 x8 (ix2 0 n) = Q.first n := by
  have h := row_eq Q x0 x1 x2 x3 x4 x5 x6 x7 x8 H n
  unfold row k0_pay80 k0_pay78 k0_pay77 k0_pay76 k0_pay74 k0_pay73 k0_pay71 k0_pay70 k0_pay69 k0_pay68 k0_pay67
  simp only [ld_vector, ld_facts, ld_entities, ld_matrix]
  exact h

/-- The direct part of the body is the query's own least distance. -/
theorem direct_part :
    k0_pay21 (k0_pay69 x0 x1 x2 x3 x4 x5 x6 x7 x8) (k0_pay70 x0 x1 x2 x3 x4 x5 x6 x7 x8) (k0_pay74 x0 x1 x2 x3 x4 x5 x6 x7 x8)
      (k0_pay75 x0 x1 x2 x3 x4 x5 x6 x7 x8) (k0_pay19 (k0_pay2 (View.ld x0 r0_0)) (k0_pay68 x0 x1 x2 x3 x4 x5 x6 x7 x8)) = Q.direct := by
  have h := direct_eq Q x0 x1 x2 x3 x4 x5 x6 x7 x8 H
  unfold k0_pay75 k0_pay74 k0_pay70 k0_pay69 k0_pay68
  simp only [ld_vector, ld_facts, ld_entities, ld_matrix]
  exact h

/-- The picks of the row are the picks of the first hop's least distances. -/
theorem row_fun : (fun n => row x0 x1 x2 x3 x4 x5 x6 x7 x8 (ix2 0 n)) = Q.first :=
  funext fun n => row_first Q x0 x1 x2 x3 x4 x5 x6 x7 x8 H n

/-- A round's value: the first hop's least distance at the round's branch. -/
theorem round_value (r : Fin 10) : roundMin (rowAfter (row x0 x1 x2 x3 x4 x5 x6 x7 x8) r.val) = Q.first (Q.branch r) := by
  rw [rowAfter_min _ (fun n => by rw [row_first Q x0 x1 x2 x3 x4 x5 x6 x7 x8 H]; exact Q.first_ne_top n) r.val (by omega),
    row_fun Q x0 x1 x2 x3 x4 x5 x6 x7 x8 H, row_first Q x0 x1 x2 x3 x4 x5 x6 x7 x8 H]
  rfl

/-- The vector taken for row `r` of the branches is that of the round's entity. -/
theorem taken_branch (r : Fin 16) (h : r.val < 10) (k : Fin 64) :
    taken (k0_pay67 x0 x1 x2 x3 x4 x5 x6 x7 x8) (posColumn fun r => roundSel (rowAfter (row x0 x1 x2 x3 x4 x5 x6 x7 x8) r)) (ix2 r k)
      = (Q.en (Q.branch ⟨r.val, h⟩) k : EReal) := by
  rw [taken_apply _ _ r k (Q.branch ⟨r.val, h⟩)]
  · unfold k0_pay67
    rw [ld_entities, pay6_apply, H.en]
  · rw [posColumn_apply, if_pos h, rowAfter_sel, row_fun Q x0 x1 x2 x3 x4 x5 x6 x7 x8 H]
    rfl

/-- A branch's value: the second hop's least distance from the round's entity. -/
theorem branch_value (r : Fin 16) (h : r.val < 10) :
    branchColumn (k0_pay69 x0 x1 x2 x3 x4 x5 x6 x7 x8)
      (k0_pay22 (k0_pay68 x0 x1 x2 x3 x4 x5 x6 x7 x8) (k0_pay70 x0 x1 x2 x3 x4 x5 x6 x7 x8)
        (k0_pay16 (k0_pay8 (View.ld x0 r0_0) (View.ld x8 r0_3))) (k0_pay75 x0 x1 x2 x3 x4 x5 x6 x7 x8))
      (taken (k0_pay67 x0 x1 x2 x3 x4 x5 x6 x7 x8) (posColumn fun r => roundSel (rowAfter (row x0 x1 x2 x3 x4 x5 x6 x7 x8) r))) (ix2 r 0)
      = Q.second (Q.branch ⟨r.val, h⟩) := by
  rw [branchColumn_apply, Query.second]
  refine iInf_congr fun f => ?_
  rw [funext (taken_branch Q x0 x1 x2 x3 x4 x5 x6 x7 x8 H r h)]
  have hs := second_part Q x0 x1 x2 x3 x4 x5 x6 x7 x8 H f
  unfold k0_pay75 k0_pay70 k0_pay69 k0_pay68
  simp only [ld_vector, ld_facts, ld_matrix]
  rw [hs, add_right_comm]
  simp only [pay11_apply, H.f1, wide_dot]
  rfl

/-- The body's result is the score. -/
theorem out_eq : out0_9 x0 x1 x2 x3 x4 x5 x6 x7 x8 = fun _ => Q.score := by
  rw [out_parts, View.canon_unit_zero start3]
  funext i
  rw [finish_apply, direct_part Q x0 x1 x2 x3 x4 x5 x6 x7 x8 H, Query.score]
  refine congrArg (fun z => Ideal.exp (-(min Q.direct z))) (iInf_sixteen _ _ (fun r h => ?_) fun r h => ?_)
  · rw [minColumn_apply, if_pos h, branch_value Q x0 x1 x2 x3 x4 x5 x6 x7 x8 H r h]
    exact congrArg (fun z => max z (Q.second (Q.branch ⟨r.val, h⟩))) (round_value Q x0 x1 x2 x3 x4 x5 x6 x7 x8 H ⟨r.val, h⟩)
  · rw [minColumn_apply, if_neg h]
    exact top_sup_eq _

end

end Cert.Hops
-- ==== Proof.Array.lean ====
/-
  The kernel's result array: over real arguments, entry `b` is the score of batch element `b`.
-/
module

public import proofs.«01_k».proof.Proof.Score
public import proofs.«01_k».proof.Proof.Gen.KernelIdeal.Points

@[expose] public section

set_option maxRecDepth 16384

noncomputable section

namespace Cert.Hops

open Cert.KernelIdeal Cert.KernelIdeal.Gen
open Idealize.ShloMosaic Idealize.ShloMosaic.TcCoe Idealize.SL.Sem

/-- Every entry is a real number. -/
def IsReal {s : Shape} (x : FVec Ideal s .f32) : Prop := ∀ i, ∃ r : ℝ, x i = (r : EReal)

/-- An entry that is a real number, from its real part. -/
theorem IsReal.eq {s : Shape} {x : FVec Ideal s .f32} (h : IsReal x) (i : s.Idx) : x i = ((EReal.toReal (x i) : ℝ) : EReal) := by
  obtain ⟨r, hr⟩ := h i
  rw [hr, EReal.toReal_coe]

/-- The inputs of batch element `b`, from the nine arrays. -/
def query (a0 a1 a2 : FVec Ideal S4x64 .f32) (a3 a4 a5 : FVec Ideal S4x4096x64 .f32) (a6 : FVec Ideal S4x2048x64 .f32)
    (a7 a8 : FVec Ideal S64x64 .f32) (b : Fin 4) : Query where
  rel k := EReal.toReal (a0 (ix2 b k))
  a1 k := EReal.toReal (a1 (ix2 b k))
  a2 k := EReal.toReal (a2 (ix2 b k))
  fr f k := EReal.toReal (a3 (ix3 b f k))
  f1 f k := EReal.toReal (a4 (ix3 b f k))
  f2 f k := EReal.toReal (a5 (ix3 b f k))
  en n k := EReal.toReal (a6 (ix3 b n k))
  W1 j k := EReal.toReal (a7 (ix2 j k))
  W2 j k := EReal.toReal (a8 (ix2 j k))

/-- The batch element of a grid point. -/
def batch (t : Fin cfg0.N) : Fin 4 := ⟨t.val, t.isLt⟩

/-- Where a grid point's block starts: of the relations, -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
/-- of the first arguments, -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
/-- of the second arguments, -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
/-- of the facts' relations, -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
/-- of the facts' first arguments, -/
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
/-- of the facts' second arguments, -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
/-- of the entities, -/
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
/-- of the first hop's matrix, -/
theorem idx7 : ∀ t : Fin cfg0.N, win0_7.index t (0 : Fin 2) = 0 ∧ win0_7.index t (1 : Fin 2) = 0 :=
  (by decide +kernel : ∀ t : Fin grid0.N, _)
/-- of the second hop's matrix, -/
theorem idx8 : ∀ t : Fin cfg0.N, win0_8.index t (0 : Fin 2) = 0 ∧ win0_8.index t (1 : Fin 2) = 0 :=
  (by decide +kernel : ∀ t : Fin grid0.N, _)
/-- and of the result. -/
theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

/-- An index of the array from its parts: a block of one batch element, `n` rows and 64 columns. -/
theorem place {n : ℕ} (p : (⟨3, ![4, n, 64]⟩ : Shape).Idx) (b : Fin 4) (f : Fin n) (k : Fin 64) (h0 : (p 0).val = b.val) (h1 : (p 1).val = f.val)
    (h2 : (p 2).val = k.val) : p = ix3 b f k := by
  funext a
  match a with
  | ⟨0, _⟩ => exact Fin.ext h0
  | ⟨1, _⟩ => exact Fin.ext h1
  | ⟨2, _⟩ => exact Fin.ext h2

variable (m : (ℓ : Loc nD τ sig) → Buf (Elt Ideal) ℓ) (c : Dev nD) (t : Fin cfg0.N)

/-- The relations as the region finds them: one row per batch element. -/
theorem V_v0 (b : Fin 4) (k : Fin 64) : V m c main_v0 (ix3 b 0 k) = m ((c : Thread nD τ).loc main_arg0) (ix2 b k) := by
  have h : V m c main_v0 = broadcastInDim S4x1x64 ![0, 2] bcast_S4x64_S4x1x64_0_2 (m ((c : Thread nD τ).loc main_arg0)) := by
    unfold V V0 hostOps0
    simp only [List.flatten_cons, List.flatten_nil, List.append_nil]
    after_results
  rw [h]
  pointwise []

/-- The first arguments as the region finds them: one row per batch element. -/
theorem V_v1 (b : Fin 4) (k : Fin 64) : V m c main_v1 (ix3 b 0 k) = m ((c : Thread nD τ).loc main_arg1) (ix2 b k) := by
  have h : V m c main_v1 = broadcastInDim S4x1x64 ![0, 2] bcast_S4x64_S4x1x64_0_2 (m ((c : Thread nD τ).loc main_arg1)) := by
    unfold V V0 hostOps0
    simp only [List.flatten_cons, List.flatten_nil, List.append_nil]
    after_results
  rw [h]
  pointwise []

/-- The second arguments as the region finds them: one row per batch element. -/
theorem V_v2 (b : Fin 4) (k : Fin 64) : V m c main_v2 (ix3 b 0 k) = m ((c : Thread nD τ).loc main_arg2) (ix2 b k) := by
  have h : V m c main_v2 = broadcastInDim S4x1x64 ![0, 2] bcast_S4x64_S4x1x64_0_2 (m ((c : Thread nD τ).loc main_arg2)) := by
    unfold V V0 hostOps0
    simp only [List.flatten_cons, List.flatten_nil, List.append_nil]
    after_results
  rw [h]
  pointwise []

/-- Window 0's block is its array at the point's batch element. -/
theorem block0 (f : Fin 1) (k : Fin 64) : iblk m c 0 t (ix3 0 f k) = V m c main_v0 (ix3 (batch t) f k) := by
  obtain ⟨h0, h1, h2⟩ := idx0 t
  refine congrArg (V m c main_v0) (place (((cfg0.win 0).blk t).view.emb (ix3 0 f k)) (batch t) f k ?_ ?_ ?_)
  · show win0_0.index t (0 : Fin 3) * 1 + 1 * 0 = t.val; omega
  · show win0_0.index t (1 : Fin 3) * 1 + 1 * f.val = f.val; omega
  · show win0_0.index t (2 : Fin 3) * 64 + 1 * k.val = k.val; omega

/-- Window 1's block is its array at the point's batch element. -/
theorem block1 (f : Fin 1) (k : Fin 64) : iblk m c 1 t (ix3 0 f k) = V m c main_v1 (ix3 (batch t) f k) := by
  obtain ⟨h0, h1, h2⟩ := idx1 t
  refine congrArg (V m c main_v1) (place (((cfg0.win 1).blk t).view.emb (ix3 0 f k)) (batch t) f k ?_ ?_ ?_)
  · show win0_1.index t (0 : Fin 3) * 1 + 1 * 0 = t.val; omega
  · show win0_1.index t (1 : Fin 3) * 1 + 1 * f.val = f.val; omega
  · show win0_1.index t (2 : Fin 3) * 64 + 1 * k.val = k.val; omega

/-- Window 2's block is its array at the point's batch element. -/
theorem block2 (f : Fin 1) (k : Fin 64) : iblk m c 2 t (ix3 0 f k) = V m c main_v2 (ix3 (batch t) f k) := by
  obtain ⟨h0, h1, h2⟩ := idx2 t
  refine congrArg (V m c main_v2) (place (((cfg0.win 2).blk t).view.emb (ix3 0 f k)) (batch t) f k ?_ ?_ ?_)
  · show win0_2.index t (0 : Fin 3) * 1 + 1 * 0 = t.val; omega
  · show win0_2.index t (1 : Fin 3) * 1 + 1 * f.val = f.val; omega
  · show win0_2.index t (2 : Fin 3) * 64 + 1 * k.val = k.val; omega

/-- Window 3's block is its array at the point's batch element. -/
theorem block3 (f : Fin 4096) (k : Fin 64) : iblk m c 3 t (ix3 0 f k) = V m c main_arg3 (ix3 (batch t) f k) := by
  obtain ⟨h0, h1, h2⟩ := idx3 t
  refine congrArg (V m c main_arg3) (place (((cfg0.win 3).blk t).view.emb (ix3 0 f k)) (batch t) f k ?_ ?_ ?_)
  · show win0_3.index t (0 : Fin 3) * 1 + 1 * 0 = t.val; omega
  · show win0_3.index t (1 : Fin 3) * 4096 + 1 * f.val = f.val; omega
  · show win0_3.index t (2 : Fin 3) * 64 + 1 * k.val = k.val; omega

/-- Window 4's block is its array at the point's batch element. -/
theorem block4 (f : Fin 4096) (k : Fin 64) : iblk m c 4 t (ix3 0 f k) = V m c main_arg4 (ix3 (batch t) f k) := by
  obtain ⟨h0, h1, h2⟩ := idx4 t
  refine congrArg (V m c main_arg4) (place (((cfg0.win 4).blk t).view.emb (ix3 0 f k)) (batch t) f k ?_ ?_ ?_)
  · show win0_4.index t (0 : Fin 3) * 1 + 1 * 0 = t.val; omega
  · show win0_4.index t (1 : Fin 3) * 4096 + 1 * f.val = f.val; omega
  · show win0_4.index t (2 : Fin 3) * 64 + 1 * k.val = k.val; omega

/-- Window 5's block is its array at the point's batch element. -/
theorem block5 (f : Fin 4096) (k : Fin 64) : iblk m c 5 t (ix3 0 f k) = V m c main_arg5 (ix3 (batch t) f k) := by
  obtain ⟨h0, h1, h2⟩ := idx5 t
  refine congrArg (V m c main_arg5) (place (((cfg0.win 5).blk t).view.emb (ix3 0 f k)) (batch t) f k ?_ ?_ ?_)
  · show win0_5.index t (0 : Fin 3) * 1 + 1 * 0 = t.val; omega
  · show win0_5.index t (1 : Fin 3) * 4096 + 1 * f.val = f.val; omega
  · show win0_5.index t (2 : Fin 3) * 64 + 1 * k.val = k.val; omega

/-- Window 6's block is its array at the point's batch element. -/
theorem block6 (f : Fin 2048) (k : Fin 64) : iblk m c 6 t (ix3 0 f k) = V m c main_arg6 (ix3 (batch t) f k) := by
  obtain ⟨h0, h1, h2⟩ := idx6 t
  refine congrArg (V m c main_arg6) (place (((cfg0.win 6).blk t).view.emb (ix3 0 f k)) (batch t) f k ?_ ?_ ?_)
  · show win0_6.index t (0 : Fin 3) * 1 + 1 * 0 = t.val; omega
  · show win0_6.index t (1 : Fin 3) * 2048 + 1 * f.val = f.val; omega
  · show win0_6.index t (2 : Fin 3) * 64 + 1 * k.val = k.val; omega

/-- Window 7's block is its whole array. -/
theorem block7 (j k : Fin 64) : iblk m c 7 t (ix2 j k) = V m c main_arg7 (ix2 j k) := by
  obtain ⟨h0, h1⟩ := idx7 t
  refine congrArg (V m c main_arg7) (funext fun a => Fin.ext ?_)
  match a with
  | ⟨0, _⟩ => show win0_7.index t (0 : Fin 2) * 64 + 1 * j.val = j.val; omega
  | ⟨1, _⟩ => show win0_7.index t (1 : Fin 2) * 64 + 1 * k.val = k.val; omega

/-- Window 8's block is its whole array. -/
theorem block8 (j k : Fin 64) : iblk m c 8 t (ix2 j k) = V m c main_arg8 (ix2 j k) := by
  obtain ⟨h0, h1⟩ := idx8 t
  refine congrArg (V m c main_arg8) (funext fun a => Fin.ext ?_)
  match a with
  | ⟨0, _⟩ => show win0_8.index t (0 : Fin 2) * 64 + 1 * j.val = j.val; omega
  | ⟨1, _⟩ => show win0_8.index t (1 : Fin 2) * 64 + 1 * k.val = k.val; omega

/-- All nine float arguments are real. -/
structure RealArgs : Prop where
  h0 : IsReal (m ((c : Thread nD τ).loc main_arg0))
  h1 : IsReal (m ((c : Thread nD τ).loc main_arg1))
  h2 : IsReal (m ((c : Thread nD τ).loc main_arg2))
  h3 : IsReal (m ((c : Thread nD τ).loc main_arg3))
  h4 : IsReal (m ((c : Thread nD τ).loc main_arg4))
  h5 : IsReal (m ((c : Thread nD τ).loc main_arg5))
  h6 : IsReal (m ((c : Thread nD τ).loc main_arg6))
  h7 : IsReal (m ((c : Thread nD τ).loc main_arg7))
  h8 : IsReal (m ((c : Thread nD τ).loc main_arg8))

/-- The inputs of batch element `b` as launched. -/
def launched (b : Fin 4) : Query :=
  query (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b

variable (R : RealArgs m c)
include R

/-- The point's blocks hold the inputs of its batch element. -/
theorem holds : Holds (launched m c (batch t)) (iblk m c 0 t) (iblk m c 1 t) (iblk m c 2 t) (iblk m c 3 t) (iblk m c 4 t) (iblk m c 5 t)
    (iblk m c 6 t) (iblk m c 7 t) (iblk m c 8 t) where
  rel k := (block0 m c t 0 k).trans ((V_v0 m c _ k).trans (R.h0.eq _))
  a1 k := (block1 m c t 0 k).trans ((V_v1 m c _ k).trans (R.h1.eq _))
  a2 k := (block2 m c t 0 k).trans ((V_v2 m c _ k).trans (R.h2.eq _))
  fr f k := (block3 m c t f k).trans ((congrFun (V_main_arg3 m c) _).trans (R.h3.eq _))
  f1 f k := (block4 m c t f k).trans ((congrFun (V_main_arg4 m c) _).trans (R.h4.eq _))
  f2 f k := (block5 m c t f k).trans ((congrFun (V_main_arg5 m c) _).trans (R.h5.eq _))
  en n k := (block6 m c t n k).trans ((congrFun (V_main_arg6 m c) _).trans (R.h6.eq _))
  W1 j k := (block7 m c t j k).trans ((congrFun (V_main_arg7 m c) _).trans (R.h7.eq _))
  W2 j k := (block8 m c t j k).trans ((congrFun (V_main_arg8 m c) _).trans (R.h8.eq _))

omit R in
/-- An index of the result window's block is the point's entry of the array. -/
theorem emb9 (j : S1x1x1.Idx) : ((cfg0.win 9).blk t).view.emb j = ix3 (batch t) 0 0 := by
  obtain ⟨h0, h1, h2⟩ := idx9 t
  have e0 : (j 0).val = 0 := by have := (j 0).isLt; exact Nat.lt_one_iff.mp this
  have e1 : (j 1).val = 0 := by have := (j 1).isLt; exact Nat.lt_one_iff.mp this
  have e2 : (j 2).val = 0 := by have := (j 2).isLt; exact Nat.lt_one_iff.mp this
  refine funext fun a => Fin.ext ?_
  match a with
  | ⟨0, _⟩ => show win0_9.index t (0 : Fin 3) * 1 + 1 * (j 0).val = t.val; omega
  | ⟨1, _⟩ => show win0_9.index t (1 : Fin 3) * 1 + 1 * (j 1).val = 0; omega
  | ⟨2, _⟩ => show win0_9.index t (2 : Fin 3) * 1 + 1 * (j 2).val = 0; omega

/-- The array of scores. -/
def scores : FVec Ideal S4x1x1 .f32 := fun i => (launched m c (i 0)).score

/-- A point writes back its block of the array of scores. -/
theorem flushed_eq : (dats m 0 c).flushed 9 t = ((cfg0.win 9).blk t).view.read (Elt Ideal) (scores m c) := by
  funext j
  show (dats m 0 c).after 9 t j = scores m c (((cfg0.win 9).blk t).view.emb j)
  rw [after0_9, out_eq _ _ _ _ _ _ _ _ _ _ (holds m c t R), emb9]
  rfl

omit R in
/-- Every entry of the array is some point's. -/
theorem covered (i : S4x1x1.Idx) : ∃ t : Fin cfg0.N, (cfg0.win 9).flush t = true ∧ i ∈ ((cfg0.win 9).blk t).view.set := by
  refine ⟨⟨(i 0).val, (i 0).isLt⟩, flush0_9 _, ?_⟩
  have h := ((cfg0.win 9).blk (⟨(i 0).val, (i 0).isLt⟩ : Fin cfg0.N)).view.emb_mem_set (ix3 0 0 0 : S1x1x1.Idx)
  rw [emb9] at h
  have e : i = ix3 (batch ⟨(i 0).val, (i 0).isLt⟩) 0 0 := by
    funext a
    match a with
    | ⟨0, _⟩ => rfl
    | ⟨1, _⟩ => exact Subsingleton.elim (α := Fin 1) _ _
    | ⟨2, _⟩ => exact Subsingleton.elim (α := Fin 1) _ _
  rw [e]; exact h

/-- The array after the region holds the scores. -/
theorem array_eq : (dats m 0 c).arrAt 9 cfg0.N = scores m c :=
  (dats m 0 c).arrAt_eq_of_cover 9 (scores m c) (fun t _ => flushed_eq m c t R) covered

/-- The result of the program holds the scores. -/
theorem result_eq : Pipeline.afterTail₀ cfgs (dats m) 0 (V0 m) [hostOps1] c main_v4 = fun i => (launched m c (i 0)).score := by
  have h : Pipeline.afterTail₀ cfgs (dats m) 0 (V0 m) [hostOps1] c main_v4
      = shapeCast S4 ((dats m 0 c).arrAt 9 cfg0.N) shapeCasts_S4x1x1_S4 := by
    unfold Pipeline.afterTail₀ hostOps1
    simp only [List.flatten_cons, List.flatten_nil, List.append_nil]
    after_results
    exact congrArg (fun x => shapeCast S4 x shapeCasts_S4x1x1_S4) (Pipeline.withArrays_arr spec0 (by decide) c (V0 m c) _ 9)
  rw [h, array_eq m c R]
  funext i
  idx_vars i
  pointwise [scores]

omit R in
/-- Every run of the kernel on real arguments ends with the scores in its result. -/
theorem kernel_run (m : (ℓ : Loc nD τ sig) → Buf (Elt Ideal) ℓ) (ρ : Dev nD → PrngReg) (R : ∀ c, RealArgs m c) :
    θ_run defs (onTc (τ := τ) (main (F := Ideal))) ⟨m, fun _ => 0, ρ⟩ (fun r => ∀ c : Dev nD,
      r.2.mem ((c.tc : Thread nD τ).loc main_v4) = (fun i => (launched m c (i 0)).score)) :=
  (θ_run defs _ _).mono (fun _ h c =>
    (((h c).2 main_v4 (Pipeline.mem_restRefs_of main_v4 (by decide) (by decide))).trans (result_eq m c (R c)))) (run_main m ρ)

end Cert.Hops
-- ==== Proof.Precondition.lean ====
/-
  What the precondition says: every float argument holds real numbers, and the two counts cover all facts and all entities.
-/
module

public import proofs.«01_k».proof.Defs
public import proofs.«01_k».proof.Proof.Array

@[expose] public section

set_option maxRecDepth 16384

noncomputable section

namespace Cert.Hops

open Idealize.ShloMosaic Idealize.ShloMosaic.TcCoe

/-- The shape relations that the precondition states. -/
theorem pre_facts : Cert.Pre_finite_and_full.Facts where
  bcast_S_S4x64 := by decide
  bcast_S_S4x4096x64 := by decide
  bcast_S_S4x2048x64 := by decide
  bcast_S_S64x64 := by decide
  bcast_S_S4 := by decide

/-- A number whose absolute value is below plus infinity is real. -/
theorem real_of_abs (x : EReal) (h : max x (-x) < ⊤) : ∃ r : ℝ, x = (r : EReal) := by
  induction x with
  | bot => simp at h
  | top => simp at h
  | coe r => exact ⟨r, rfl⟩

/-- An array whose absolute values are all below plus infinity is real. -/
theorem real_of_mask {s : Shape} (x : FVec Ideal s .f32) (y : FVec Ideal s .f32) (hy : ∀ i, y i = Ideal.ofBits .f32 2139095040#32)
    (h : cmpf .olt (Host.absf x) y = fun _ => 1#1) : IsReal x := by
  intro i
  have hi : BitVec.ofBool (decide (max (x i) (-(x i)) < y i)) = 1#1 := congrFun h i
  rw [hy, plus_inf] at hi
  refine real_of_abs _ ?_
  by_contra hn
  rw [decide_eq_false hn] at hi
  exact absurd hi (by decide)

/-- Where the comparison says so, a word is at least the bound. -/
theorem count_of_mask {s : Shape} (x y : IVec s 32) (n : BitVec 32) (hy : ∀ i, y i = n) (h : cmpi .sge x y = fun _ => 1#1) (i : s.Idx) :
    n.toInt ≤ (x i).toInt := by
  have hi : IntOp.cmpi .sge (x i) (y i) = 1#1 := congrFun h i
  rw [hy] at hi
  rw [← BitVec.sle_iff_toInt_le]
  by_contra hn
  rw [Bool.not_eq_true] at hn
  simp [IntOp.cmpi, hn] at hi

variable (m : (ℓ : Loc Cert.KernelIdeal.nD Cert.KernelIdeal.τ Cert.KernelIdeal.sig) → Buf (Elt Ideal) ℓ)
  (hp : Cert.Pre_KernelIdeal_finite_and_full (hPre_finite_and_full := pre_facts) m) (c : Dev Cert.KernelIdeal.nD)
include hp

/-- The float arguments hold real numbers. -/
theorem pre_real : RealArgs m c := by
  obtain ⟨h0, h1, h2, h3, h4, h5, h6, h7, h8, -, -⟩ := hp c
  exact ⟨real_of_mask _ _ (fun _ => rfl) h0, real_of_mask _ _ (fun _ => rfl) h1, real_of_mask _ _ (fun _ => rfl) h2,
    real_of_mask _ _ (fun _ => rfl) h3, real_of_mask _ _ (fun _ => rfl) h4, real_of_mask _ _ (fun _ => rfl) h5,
    real_of_mask _ _ (fun _ => rfl) h6, real_of_mask _ _ (fun _ => rfl) h7, real_of_mask _ _ (fun _ => rfl) h8⟩

/-- All facts count. -/
theorem pre_facts_count (i : Cert.KernelIdeal.S4.Idx) :
    4096 ≤ (m ((c.tc : Thread Cert.KernelIdeal.nD Cert.KernelIdeal.τ).loc Cert.KernelIdeal.main_arg9) i).toInt := by
  obtain ⟨-, -, -, -, -, -, -, -, -, h, -⟩ := hp c
  exact count_of_mask _ _ 4096#32 (fun _ => rfl) h i

/-- All entities count. -/
theorem pre_entities_count (i : Cert.KernelIdeal.S4.Idx) :
    2048 ≤ (m ((c.tc : Thread Cert.KernelIdeal.nD Cert.KernelIdeal.τ).loc Cert.KernelIdeal.main_arg10) i).toInt := by
  obtain ⟨-, -, -, -, -, -, -, -, -, -, h⟩ := hp c
  exact count_of_mask _ _ 2048#32 (fun _ => rfl) h i

end Cert.Hops
-- ==== Proof.RefParts.lean ====
/-
  The parts that the reference is built from, read at an index: the Gaussian kernel of two rows (for one, ten and 2048 query rows per batch
  element), the fact mask and the entity mask.
-/
module

public import proofs.«01_k».proof.Proof.Gen.ReferenceIdeal.Read
public import proofs.«01_k».proof.Proof.Spec

@[expose] public section

set_option maxRecDepth 16384

noncomputable section

namespace Cert.Hops

open Cert.ReferenceIdeal Cert.ReferenceIdeal.Gen Cert.ReferenceIdeal.Read
open Idealize.ShloMosaic Idealize.ShloMosaic.TcCoe

/-- The reference's Gaussian kernel of two rows. -/
def gauss (q f : Fin 64 → EReal) : EReal :=
  Ideal.exp (-Ideal.sqrt (max eps (∑ k, q k * q k + ∑ k, f k * f k - Ideal.ofBits .f32 1073741824#32 * ∑ k, q k * f k)))

/-- Of two real rows it is the exponential of minus their distance. -/
theorem gauss_real (q f : Fin 64 → ℝ) : gauss (fun k => (q k : EReal)) (fun k => (f k : EReal)) = Ideal.exp (-(dist q f)) := by
  rw [gauss, dot_coe, dot_coe, dot_coe, pos_two, ← EReal.coe_add, ← EReal.coe_mul, ← EReal.coe_sub, max_comm]
  rfl

/-- One query row per batch element. -/
theorem gauss1_apply (q : FVec Ideal S4x64 .f32) (f : FVec Ideal S4x4096x64 .f32) (b : Fin 4) (n : Fin 4096) :
    val_main_v18 (F := Ideal) q f (ix3 b 0 n) = gauss (fun k => q (ix2 b k)) (fun k => f (ix3 b n k)) := by
  pointwise [
    val_main_v18, val_main_v17, val_main_v16, val_main_v15, val_main_call0_v1, val_main_call0_v0, val_main_cst_2, val_main_v14,
    val_main_v10, val_main_v9, val_main_v5, val_main_v4, val_main_v3, val_main_v0, val_main_cst, val_main_v8, val_main_v7, val_main_v6,
    val_main_cst_0, val_main_v13, val_main_v12, val_main_cst_1, val_main_v11, id]
  rfl

/-- 2048 query rows per batch element. -/
theorem gauss2048_apply (f : FVec Ideal S4x4096x64 .f32) (q : FVec Ideal S4x2048x64 .f32) (b : Fin 4) (r : Fin 2048) (n : Fin 4096) :
    val_main_v127 (F := Ideal) f q (ix3 b r n) = gauss (fun k => q (ix3 b r k)) (fun k => f (ix3 b n k)) := by
  pointwise [
    val_main_v127, val_main_v126, val_main_v125, val_main_v124, val_main_call5_v1, val_main_call5_v0, val_main_cst_23, val_main_v123,
    val_main_v119, val_main_v117, val_main_v113, val_main_v112, val_main_v111, val_main_cst_20, val_main_v118, val_main_v116,
    val_main_v115, val_main_v114, val_main_cst_21, val_main_v122, val_main_v121, val_main_cst_22, val_main_v120, id]
  rfl

/-- The Gaussian kernel at ten query rows per batch element, as the reference writes it. -/
def gauss10 (q : FVec Ideal S4x10x64 .f32) (f : FVec Ideal S4x4096x64 .f32) : FVec Ideal S4x10x4096 .f32 :=
  Host.exp (Host.negf (Host.sqrt (maximumf (val_main_call7_v1 (F := Ideal))
    (subf
      (addf
        (broadcastInDim S4x10x4096 ![0, 1, 2] bcast_S4x10x1_S4x10x4096_0_1_2 (broadcastInDim S4x10x1 ![0, 1] bcast_S4x10_S4x10x1_0_1
          (Host.reduceAdd (mulf q q) (val_main_cst_25 (F := Ideal)) reducesTo_S4x10x64_S4x10_d2 h_S_)))
        (val_main_v153 (F := Ideal) f))
      (mulf (val_main_v156 (F := Ideal)) (Host.dotGeneral dot_S4x10x64_S4x4096x64_S4x10x4096_2_2_1_1_0_0 none q f))))))

/-- Ten query rows per batch element. -/
theorem gauss10_apply (q : FVec Ideal S4x10x64 .f32) (f : FVec Ideal S4x4096x64 .f32) (b : Fin 4) (r : Fin 10) (n : Fin 4096) :
    gauss10 q f (ix3 b r n) = gauss (fun k => q (ix3 b r k)) (fun k => f (ix3 b n k)) := by
  pointwise [gauss10, val_main_call7_v1, val_main_call7_v0, val_main_cst_28, val_main_cst_25, val_main_v153, val_main_v151, val_main_v150,
    val_main_v149, val_main_cst_26, val_main_v156, val_main_cst_27, id]
  rfl

/-- The reference's other kernels are these again: that of the first arguments and the facts' first arguments, -/
theorem v34_eq (x : FVec Ideal S4x64 .f32) (f : FVec Ideal S4x4096x64 .f32) : val_main_v34 (F := Ideal) x f = val_main_v18 (F := Ideal) x f := rfl
/-- that of the second arguments and the facts' second arguments, -/
theorem v50_eq (x : FVec Ideal S4x64 .f32) (f : FVec Ideal S4x4096x64 .f32) : val_main_v50 (F := Ideal) x f = val_main_v18 (F := Ideal) x f := rfl
/-- that of the first arguments again, in the first hop, -/
theorem v100_eq (x : FVec Ideal S4x64 .f32) (f : FVec Ideal S4x4096x64 .f32) : val_main_v100 (F := Ideal) x f = val_main_v18 (F := Ideal) x f := rfl

/-- that of the first hop's vector, -/
theorem v82_eq (x : FVec Ideal S4x64 .f32) (f : FVec Ideal S4x4096x64 .f32) (w : FVec Ideal S64x64 .f32) :
    val_main_v82 (F := Ideal) x f w = val_main_v18 (F := Ideal) (val_main_v64 (F := Ideal) x w) f := rfl

/-- that of the second hop's vector, once per branch, -/
theorem v162_eq (x : FVec Ideal S4x64 .f32) (f : FVec Ideal S4x4096x64 .f32) (w : FVec Ideal S64x64 .f32) :
    val_main_v162 (F := Ideal) x f w = gauss10 (val_main_v143 (F := Ideal) x w) f := rfl
/-- that of the second arguments, once per branch, -/
theorem v196_eq (x : FVec Ideal S4x64 .f32) (f : FVec Ideal S4x4096x64 .f32) :
    val_main_v196 (F := Ideal) x f = gauss10 (val_main_v145 (F := Ideal) x) f := rfl
/-- and that of the branches' entities. -/
theorem v179_eq (x0 x1 : FVec Ideal S4x64 .f32) (x3 x4 x5 : FVec Ideal S4x4096x64 .f32) (x6 : FVec Ideal S4x2048x64 .f32)
    (x7 : FVec Ideal S64x64 .f32) (x9 x10 : IVec S4 32) :
    val_main_v179 (F := Ideal) x0 x1 x3 x4 x5 x6 x7 x9 x10 = gauss10 (val_main_v141 (F := Ideal) x0 x1 x3 x4 x5 x6 x7 x9 x10) x4 := rfl

/-- The first hop's vector: the relation through a matrix. -/
theorem v64_apply (x : FVec Ideal S4x64 .f32) (w : FVec Ideal S64x64 .f32) (b : Fin 4) (k : Fin 64) :
    val_main_v64 (F := Ideal) x w (ix2 b k) = ∑ j, x (ix2 b j) * w (ix2 j k) := by
  pointwise [val_main_v64]
/-- The second hop's vector, once per branch. -/
theorem v143_apply (x : FVec Ideal S4x64 .f32) (w : FVec Ideal S64x64 .f32) (b : Fin 4) (r : Fin 10) (k : Fin 64) :
    val_main_v143 (F := Ideal) x w (ix3 b r k) = ∑ j, x (ix2 b j) * w (ix2 j k) := by
  pointwise [val_main_v143, val_main_v142, val_main_v65]
/-- The second arguments, once per branch. -/
theorem v145_apply (x : FVec Ideal S4x64 .f32) (b : Fin 4) (r : Fin 10) (k : Fin 64) :
    val_main_v145 (F := Ideal) x (ix3 b r k) = x (ix2 b k) := by
  pointwise [val_main_v145, val_main_v144]

/-- The fact mask of the first hop is the direct one, -/
theorem v108_eq (x : IVec S4 32) : val_main_v108 (F := Ideal) x = val_main_v57 (F := Ideal) x := rfl
/-- and so is that of the second hop. -/
theorem v203_eq (x : IVec S4 32) : val_main_v203 (F := Ideal) x = val_main_v57 (F := Ideal) x := rfl

/-- A comparison mask is one where the index is below the count. -/
theorem mask_one (n : ℕ) (c : BitVec 32) (N : ℕ) (hn : n < N) (hN : N ≤ 4096) (hc : (N : ℤ) ≤ c.toInt) :
    (FloatOps.uitofp .f32 (IntOp.cmpi .slt (BitVec.ofNat 32 n) c) : Ideal .f32) = (1 : EReal) := by
  have hi : (BitVec.ofNat 32 n).toInt = (n : ℤ) := by
    rw [BitVec.toInt_eq_toNat_cond, BitVec.toNat_ofNat, Nat.mod_eq_of_lt (by omega), if_pos (by omega)]
  have hs : (BitVec.ofNat 32 n).slt c = true := by
    rw [BitVec.slt_iff_toInt_lt, hi]
    omega
  show (((IntOp.cmpi .slt (BitVec.ofNat 32 n) c).toNat : ℝ) : EReal) = 1
  simp [IntOp.cmpi, hs]

/-- The fact mask is one when every fact counts. -/
theorem v57_apply (x : IVec S4 32) (b : Fin 4) (n : Fin 4096) (h : 4096 ≤ (x (ix1 b)).toInt) :
    val_main_v57 (F := Ideal) x (ix2 b n) = 1 := by
  pointwise [
    val_main_v57, val_main_v56, val_main_v54, val_main_v52, val_main_v51, val_main_v55, val_main_v53]
  exact mask_one n.val _ 4096 n.isLt le_rfl h

/-- The entity mask is one when every entity counts. -/
theorem v138_apply (x : IVec S4 32) (b : Fin 4) (n : Fin 2048) (h : 2048 ≤ (x (ix1 b)).toInt) :
    val_main_v138 (F := Ideal) x (ix2 b n) = 1 := by
  pointwise [
    val_main_v138, val_main_v137, val_main_v135, val_main_v133, val_main_v132, val_main_v136, val_main_v134]
  exact mask_one n.val _ 2048 n.isLt (by omega) h

end Cert.Hops
-- ==== Proof.TopTen.lean ====
/-
  The reference's choice of the ten best: its stable descending sort puts, at place `r`, the entity that the kernel's round `r` picks.
-/
module

public import proofs.«01_k».proof.Proof.RefParts

@[expose] public section

set_option maxRecDepth 16384

noncomputable section

namespace Cert.Hops

open Cert.ReferenceIdeal Cert.ReferenceIdeal.Gen Cert.ReferenceIdeal.Read
open Idealize.ShloMosaic Idealize.ShloMosaic.TcCoe

/-- Replacing the column of an index. -/
theorem along_column (b : Fin 4) (r k : Fin 2048) : (ix2 b r : S4x2048.Idx).along (1 : Fin 2) k = ix2 b k := by
  funext a
  match a with
  | ⟨0, _⟩ => rfl
  | ⟨1, _⟩ => rfl

/-- Where the sort of a row takes place `r` from, when the row's entries fall as `y` grows. -/
theorem sorted_place (x : FVec Ideal S4x2048 .f32) (y : Fin 2048 → ℝ) (b : Fin 4) (hx : ∀ n, x (ix2 b n) = Ideal.exp (-(y n : EReal))) (r : Fin 10) :
    sortedFrom (fun k k' : Fin 2048 => (FloatOps.cmpfTotal .gt (x (ix2 b k)) (x (ix2 b k')) : BitVec 1) == 1#1) (r.castLE (by omega))
      = pick (fun n => (y n : EReal)) r.val := by
  refine sortedFrom_pick y _ (fun k k' => ?_) r
  rw [hx, hx]
  show (BitVec.ofBool (decide (Ideal.exp (-(y k' : EReal)) < Ideal.exp (-(y k : EReal)))) == 1#1) = _
  simp only [exp_neg_lt]
  by_cases h : y k < y k' <;> simp [h]

/-- The slice of the first ten columns. -/
theorem first_ten {α : Type} (z : S4x2048.Idx → α) (b : Fin 4) (r : Fin 10) :
    extractStridedSlice S4x10 (fun _ => 0) z sliceFits_S4x2048_S4x10 (ix2 b r) = z (ix2 b (r.castLE (by omega))) := by
  refine congrArg z (funext fun a => Fin.ext ?_)
  match a with
  | ⟨0, _⟩ => exact Nat.zero_add _
  | ⟨1, _⟩ => exact Nat.zero_add _

/-- A row sort of values with their positions, read at a place. -/
theorem sort_place {α β : Type} (gt : α → α → BitVec 1) (x : S4x2048.Idx → α) (w : S4x2048.Idx → β) (b : Fin 4) (r : Fin 2048) :
    (Host.sort2 S4x2048 1 (fun l l' : α × β => gt l.1 l'.1) x w).1 (ix2 b r)
        = x (ix2 b (sortedFrom (fun k k' : Fin 2048 => gt (x (ix2 b k)) (x (ix2 b k')) == 1#1) r))
      ∧ (Host.sort2 S4x2048 1 (fun l l' : α × β => gt l.1 l'.1) x w).2 (ix2 b r)
        = w (ix2 b (sortedFrom (fun k k' : Fin 2048 => gt (x (ix2 b k)) (x (ix2 b k')) == 1#1) r)) := by
  unfold Host.sort2
  rw [dif_pos (by decide : 1 < S4x2048.rank)]
  constructor
  · show x ((ix2 b r : S4x2048.Idx).along (1 : Fin 2) (sortedFrom (fun k k' : Fin 2048 =>
      gt (x ((ix2 b r : S4x2048.Idx).along (1 : Fin 2) k)) (x ((ix2 b r : S4x2048.Idx).along (1 : Fin 2) k')) == 1#1) r)) = _
    simp only [along_column]
    exact congrArg x (along_column b r _)
  · show w ((ix2 b r : S4x2048.Idx).along (1 : Fin 2) (sortedFrom (fun k k' : Fin 2048 =>
      gt (x ((ix2 b r : S4x2048.Idx).along (1 : Fin 2) k)) (x ((ix2 b r : S4x2048.Idx).along (1 : Fin 2) k')) == 1#1) r)) = _
    simp only [along_column]
    exact congrArg w (along_column b r _)

/-- The values of the ten best. -/
theorem top_value (x : FVec Ideal S4x2048 .f32) (y : Fin 2048 → ℝ) (b : Fin 4) (hx : ∀ n, x (ix2 b n) = Ideal.exp (-(y n : EReal))) (r : Fin 10) :
    (Host.topK S4x10 1 (FloatOps.cmpfTotal .gt) x sliceFits_S4x2048_S4x10).1 (ix2 b r) = x (ix2 b (pick (fun n => (y n : EReal)) r.val)) := by
  rw [← sorted_place x y b hx r]
  unfold Host.topK
  dsimp only
  rw [first_ten]
  exact (sort_place (FloatOps.cmpfTotal .gt) x _ b _).1

/-- The positions of the ten best. -/
theorem top_index (x : FVec Ideal S4x2048 .f32) (y : Fin 2048 → ℝ) (b : Fin 4) (hx : ∀ n, x (ix2 b n) = Ideal.exp (-(y n : EReal))) (r : Fin 10) :
    (Host.topK S4x10 1 (FloatOps.cmpfTotal .gt) x sliceFits_S4x2048_S4x10).2 (ix2 b r)
      = BitVec.ofNat 32 (pick (fun n => (y n : EReal)) r.val).val := by
  rw [← sorted_place x y b hx r]
  unfold Host.topK
  dsimp only
  rw [first_ten]
  refine (sort_place (FloatOps.cmpfTotal .gt) x _ b _).2.trans ?_
  rw [dif_pos (by decide : 1 < S4x2048.rank)]
  rfl

/-- How the reference's gather of entity rows names the axes. -/
abbrev takeRows : GatherDims S4x2048x64 S4x10x1 S4x10x64 := gather_S4x2048x64_S4x10x1_S4x10x64_2_1_0_0_1_2_1164

/-- The reference's gather of entity rows: row `r` of the result is the operand's row at the start index, when that is in range. -/
theorem gather_row (x : FVec Ideal S4x2048x64 .f32) (idx : IVec S4x10x1 32) (b : Fin 4) (r : Fin 10) (k : Fin 64) (n : Fin 2048)
    (hn : idx (ix3 b r 0) = BitVec.ofNat 32 n.val) :
    Host.gather takeRows x idx (ix3 b r k) = x (ix3 b n k) := by
  have hi : (BitVec.ofNat 32 n.val).toInt.toNat = n.val := by
    rw [BitVec.toInt_eq_toNat_cond, BitVec.toNat_ofNat, Nat.mod_eq_of_lt (by omega), if_pos (by omega), Int.toNat_natCast]
  unfold Host.gather
  refine congrArg x (funext fun a => Fin.ext ?_)
  show takeRows.start (ix3 b r k) idx a
    + takeRows.batchCoord (ix3 b r k) a
    + takeRows.offCoord (ix3 b r k) a = (ix3 b n k a).val
  have h3 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  have b0 : (0 : Fin 3) ∈ takeRows.operandBatchingDims := List.mem_singleton.mpr rfl
  have m1 : (1 : Fin 3) ∈ takeRows.startIndexMap := List.mem_singleton.mpr rfl
  have m2 : (2 : Fin 3) ∉ takeRows.startIndexMap := fun h => absurd (List.mem_singleton.mp h) (by decide)
  have k2 : (2 : Fin 3) ∈ takeRows.sKept := (GatherDims.mem_sKept _ _).mpr
    ⟨fun h => absurd (List.mem_singleton.mp h) (by decide), fun h => absurd (List.mem_singleton.mp h) (by decide)⟩
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos b0]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos m1]
    have hs : takeRows.siIdx (ix3 b r k)
        ⟨List.idxOf (1 : Fin 3) takeRows.startIndexMap,
          List.idxOf_lt_length_iff.2 m1⟩ = (ix3 b r 0 : S4x10x1.Idx) := by
      funext c; refine Fin.ext ?_
      match c with
      | ⟨0, _⟩ => rfl
      | ⟨1, _⟩ => rfl
      | ⟨2, _⟩ => rfl
    rw [hs, hn, hi]
    exact Nat.min_eq_left (by show n.val ≤ 2048 - 1; omega)
  · rw [GatherDims.batchCoord_eq_zero _ _ _ (fun h => absurd (List.mem_singleton.mp h) (by decide))]
    unfold GatherDims.start
    rw [dif_neg m2]
    simp only [Nat.zero_add, Nat.add_zero]
    unfold GatherDims.offCoord
    rw [dif_pos k2]
    rfl

end Cert.Hops
-- ==== Proof.RefHops.lean ====
/-
  The reference's direct score and its hops' vectors for one batch element, over real inputs and full counts.
-/
module

public import proofs.«01_k».proof.Proof.TopTen

@[expose] public section

set_option maxRecDepth 16384

noncomputable section

namespace Cert.Hops

open Cert.ReferenceIdeal Cert.ReferenceIdeal.Gen Cert.ReferenceIdeal.Read
open Idealize.ShloMosaic Idealize.ShloMosaic.TcCoe

/-- The product of three Gaussian kernels is the exponential of minus the total distance. -/
theorem gauss_three (p q r p' q' r' : Fin 64 → ℝ) :
    Ideal.exp (-(dist p p')) * Ideal.exp (-(dist q q')) * Ideal.exp (-(dist r r')) = Ideal.exp (-(dist p p' + dist q q' + dist r r')) := by
  obtain ⟨x, hx⟩ := dist_coe p p'
  obtain ⟨y, hy⟩ := dist_coe q q'
  obtain ⟨z, hz⟩ := dist_coe r r'
  rw [hx, hy, hz, exp_neg_mul, ← EReal.coe_add, exp_neg_mul]

/-- The greatest of the exponentials is the exponential of minus the least. -/
theorem best_exp {ι : Type} [Finite ι] [Nonempty ι] (x : ι → EReal) : ⨆ i, Ideal.exp (-(x i)) = Ideal.exp (-(⨅ i, x i)) :=
  iSup_antitone exp_neg_antitone x

/-- The arrays hold the query's numbers for batch element `b`, and all its facts and entities count. -/
structure HoldsAt (Q : Query) (b : Fin 4) (x0 x1 x2 : FVec Ideal S4x64 .f32) (x3 x4 x5 : FVec Ideal S4x4096x64 .f32)
    (x6 : FVec Ideal S4x2048x64 .f32) (x7 x8 : FVec Ideal S64x64 .f32) (x9 x10 : IVec S4 32) : Prop where
  rel : ∀ k, x0 (ix2 b k) = (Q.rel k : EReal)
  a1 : ∀ k, x1 (ix2 b k) = (Q.a1 k : EReal)
  a2 : ∀ k, x2 (ix2 b k) = (Q.a2 k : EReal)
  fr : ∀ f k, x3 (ix3 b f k) = (Q.fr f k : EReal)
  f1 : ∀ f k, x4 (ix3 b f k) = (Q.f1 f k : EReal)
  f2 : ∀ f k, x5 (ix3 b f k) = (Q.f2 f k : EReal)
  en : ∀ n k, x6 (ix3 b n k) = (Q.en n k : EReal)
  W1 : ∀ j k, x7 (ix2 j k) = (Q.W1 j k : EReal)
  W2 : ∀ j k, x8 (ix2 j k) = (Q.W2 j k : EReal)
  facts : 4096 ≤ (x9 (ix1 b)).toInt
  entities : 2048 ≤ (x10 (ix1 b)).toInt

section

variable (Q : Query) (b : Fin 4) (x0 x1 x2 : FVec Ideal S4x64 .f32) (x3 x4 x5 : FVec Ideal S4x4096x64 .f32)
  (x6 : FVec Ideal S4x2048x64 .f32) (x7 x8 : FVec Ideal S64x64 .f32) (x9 x10 : IVec S4 32)
  (H : HoldsAt Q b x0 x1 x2 x3 x4 x5 x6 x7 x8 x9 x10)
include H

/-- The reference's direct score. -/
theorem ref_direct : val_main_v63 (F := Ideal) x0 x1 x2 x3 x4 x5 x9 (ix1 b) = Ideal.exp (-Q.direct) := by
  pointwise [val_main_v63, val_main_v62, val_main_cst_11, val_main_v61, val_main_v60, val_main_v59, val_main_v58]
  rw [minus_inf, fold_max, Query.direct, ← best_exp]
  refine iSup_congr fun f => ?_
  rw [v34_eq, v50_eq, gauss1_apply, gauss1_apply, gauss1_apply, v57_apply x9 b f H.facts, mul_one, funext H.rel, funext H.a1, funext H.a2,
    funext (H.fr f), funext (H.f1 f), funext (H.f2 f), gauss_real, gauss_real, gauss_real]
  exact gauss_three _ _ _ _ _ _

/-- The reference's first hop's vector. -/
theorem ref_hop1 (k : Fin 64) : val_main_v64 (F := Ideal) x0 x7 (ix2 b k) = (Q.hop1 k : EReal) := by
  rw [v64_apply, Query.hop1, ← dot_coe]
  exact Finset.sum_congr rfl fun j _ => by rw [H.rel, H.W1]

/-- The reference's second hop's vector, once per branch. -/
theorem ref_hop2 (r : Fin 10) (k : Fin 64) : val_main_v143 (F := Ideal) x0 x8 (ix3 b r k) = (Q.hop2 k : EReal) := by
  rw [v143_apply, Query.hop2, ← dot_coe]
  exact Finset.sum_congr rfl fun j _ => by rw [H.rel, H.W2]

end

end Cert.Hops
-- ==== Proof.RefFirst.lean ====
/-
  The reference's first-hop scores for one batch element, over real inputs and full counts.
-/
module

public import proofs.«01_k».proof.Proof.RefHops

@[expose] public section

set_option maxRecDepth 16384

noncomputable section

namespace Cert.Hops

open Cert.ReferenceIdeal Cert.ReferenceIdeal.Gen Cert.ReferenceIdeal.Read
open Idealize.ShloMosaic Idealize.ShloMosaic.TcCoe

/-- An index of a reshaped matrix, in the array that it is reshaped from. -/
theorem unit_axis (b : Fin 4) (f : Fin 4096) (i : S4x1x4096.Idx) (h0 : (i 0).val = (b.val * 4096 + f.val) / 4096) (h1 : (i 1).val = 0)
    (h2 : (i 2).val = (b.val * 4096 + f.val) % 4096) : i = ix3 b 0 f := by
  funext a
  match a with
  | ⟨0, _⟩ => exact Fin.ext (h0.trans (by show _ = b.val; omega))
  | ⟨1, _⟩ => exact Fin.ext h1
  | ⟨2, _⟩ => exact Fin.ext (h2.trans (by show _ = f.val; omega))

/-- The first two factors of a first-hop score, as matrices of batch elements and facts. -/
theorem v83_apply (x0 : FVec Ideal S4x64 .f32) (x3 : FVec Ideal S4x4096x64 .f32) (x7 : FVec Ideal S64x64 .f32) (b : Fin 4) (f : Fin 4096) :
    val_main_v83 (F := Ideal) x0 x3 x7 (ix2 b f) = gauss (fun k => val_main_v64 (F := Ideal) x0 x7 (ix2 b k)) (fun k => x3 (ix3 b f k)) := by
  rw [val_main_v83_apply, v82_eq, ← gauss1_apply]
  exact congrArg _ (unit_axis b f _ rfl rfl rfl)

/-- And the second. -/
theorem v101_apply (x1 : FVec Ideal S4x64 .f32) (x4 : FVec Ideal S4x4096x64 .f32) (b : Fin 4) (f : Fin 4096) :
    val_main_v101 (F := Ideal) x1 x4 (ix2 b f) = gauss (fun k => x1 (ix2 b k)) (fun k => x4 (ix3 b f k)) := by
  rw [val_main_v101_apply, v100_eq, ← gauss1_apply]
  exact congrArg _ (unit_axis b f _ rfl rfl rfl)

/-- The product of those two, repeated for every entity. -/
theorem v129_apply (x0 x1 : FVec Ideal S4x64 .f32) (x3 x4 : FVec Ideal S4x4096x64 .f32) (x7 : FVec Ideal S64x64 .f32) (x9 : IVec S4 32)
    (b : Fin 4) (n : Fin 2048) (f : Fin 4096) (h : 4096 ≤ (x9 (ix1 b)).toInt) :
    val_main_v129 (F := Ideal) x0 x1 x3 x4 x7 x9 (ix3 b n f)
      = gauss (fun k => val_main_v64 (F := Ideal) x0 x7 (ix2 b k)) (fun k => x3 (ix3 b f k))
        * gauss (fun k => x1 (ix2 b k)) (fun k => x4 (ix3 b f k)) := by
  have hi : idx_main_v128 (idx_main_v129 (ix3 b n f : S4x2048x4096.Idx)) = ix2 b f := by
    funext a
    match a with
    | ⟨0, _⟩ => rfl
    | ⟨1, _⟩ => rfl
  rw [val_main_v129_apply, val_main_v128_apply, hi, val_main_v110_apply, val_main_v109_apply, v83_apply, v101_apply, v108_eq,
    v57_apply x9 b f h]
  exact mul_one _

/-- The best over the facts. -/
theorem v131_apply (x0 x1 : FVec Ideal S4x64 .f32) (x3 x4 x5 : FVec Ideal S4x4096x64 .f32) (x6 : FVec Ideal S4x2048x64 .f32)
    (x7 : FVec Ideal S64x64 .f32) (x9 : IVec S4 32) (b : Fin 4) (n : Fin 2048) :
    val_main_v131 (F := Ideal) x0 x1 x3 x4 x5 x6 x7 x9 (ix2 b n)
      = ⨆ f, val_main_v129 (F := Ideal) x0 x1 x3 x4 x7 x9 (ix3 b n f) * val_main_v127 (F := Ideal) x5 x6 (ix3 b n f) := by
  unfold val_main_v131 val_main_v130
  generalize val_main_v129 (F := Ideal) x0 x1 x3 x4 x7 x9 = u
  generalize val_main_v127 (F := Ideal) x5 x6 = v
  pointwise [val_main_cst_24]
  rw [minus_inf, fold_max]

section

variable (Q : Query) (b : Fin 4) (x0 x1 x2 : FVec Ideal S4x64 .f32) (x3 x4 x5 : FVec Ideal S4x4096x64 .f32)
  (x6 : FVec Ideal S4x2048x64 .f32) (x7 x8 : FVec Ideal S64x64 .f32) (x9 x10 : IVec S4 32)
  (H : HoldsAt Q b x0 x1 x2 x3 x4 x5 x6 x7 x8 x9 x10)
include H

/-- The reference's first-hop scores, masked by the entity count. -/
theorem ref_first (n : Fin 2048) : val_main_v139 (F := Ideal) x0 x1 x3 x4 x5 x6 x7 x9 x10 (ix2 b n) = Ideal.exp (-(Q.firstR n : EReal)) := by
  rw [← Q.first_eq, Query.first, ← best_exp, val_main_v139_apply, v138_apply x10 b n H.entities, v131_apply]
  refine (mul_one _).trans (iSup_congr fun f => ?_)
  rw [v129_apply x0 x1 x3 x4 x7 x9 b n f H.facts, gauss2048_apply,
    funext (ref_hop1 Q b x0 x1 x2 x3 x4 x5 x6 x7 x8 x9 x10 H), funext H.a1, funext (H.en n),
    funext (H.fr f), funext (H.f1 f), funext (H.f2 f), gauss_real, gauss_real, gauss_real]
  exact gauss_three _ _ _ _ _ _

end

end Cert.Hops
-- ==== Proof.RefTaken.lean ====
/-
  The reference's ten branches for one batch element: their first-hop scores and their entities' vectors.
-/
module

public import proofs.«01_k».proof.Proof.RefFirst

@[expose] public section

set_option maxRecDepth 16384

noncomputable section

namespace Cert.Hops

open Cert.ReferenceIdeal Cert.ReferenceIdeal.Gen Cert.ReferenceIdeal.Read
open Idealize.ShloMosaic Idealize.ShloMosaic.TcCoe

/-- An entity number is not negative, -/
theorem entity_nonneg (n : Fin 2048) : IntOp.cmpi .slt (BitVec.ofNat 32 n.val) 0#32 = 0#1 := by
  have hi : (BitVec.ofNat 32 n.val).toInt = (n.val : ℤ) := by
    rw [BitVec.toInt_eq_toNat_cond, BitVec.toNat_ofNat, Nat.mod_eq_of_lt (by omega), if_pos (by omega)]
  have hs : (BitVec.ofNat 32 n.val).slt 0#32 = false := by
    rw [← Bool.not_eq_true, BitVec.slt_iff_toInt_lt, hi]
    simp
  simp [IntOp.cmpi, hs]

/-- so the check that it is from 0 to 2047 succeeds. -/
theorem entity_inrange (n : Fin 2048) :
    IntOp.andi (IntOp.cmpi .sge (BitVec.ofNat 32 n.val) 0#32) (IntOp.cmpi .sle (BitVec.ofNat 32 n.val) 2047#32) = 1#1 := by
  have hi : (BitVec.ofNat 32 n.val).toInt = (n.val : ℤ) := by
    rw [BitVec.toInt_eq_toNat_cond, BitVec.toNat_ofNat, Nat.mod_eq_of_lt (by omega), if_pos (by omega)]
  have h0 : (0#32).sle (BitVec.ofNat 32 n.val) = true := by
    rw [BitVec.sle_iff_toInt_le, hi]
    simp
  have h1 : (BitVec.ofNat 32 n.val).sle 2047#32 = true := by
    rw [BitVec.sle_iff_toInt_le, hi]
    show (n.val : ℤ) ≤ 2047
    omega
  simp [IntOp.cmpi, IntOp.andi, h0, h1]

/-- A selection by a true condition. -/
theorem select_one {α : Type} (x y : α) : Scalar.select 1#1 x y = x := if_pos rfl

section

variable (Q : Query) (b : Fin 4) (x0 x1 x2 : FVec Ideal S4x64 .f32) (x3 x4 x5 : FVec Ideal S4x4096x64 .f32)
  (x6 : FVec Ideal S4x2048x64 .f32) (x7 x8 : FVec Ideal S64x64 .f32) (x9 x10 : IVec S4 32)
  (H : HoldsAt Q b x0 x1 x2 x3 x4 x5 x6 x7 x8 x9 x10)
include H

/-- The picks are the query's branches. -/
theorem pick_branch (r : Fin 10) : pick (fun n => (Q.firstR n : EReal)) r.val = Q.branch r := by
  rw [Query.branch]
  exact congrArg (fun g => pick g r.val) (funext fun n => (Q.first_eq n).symm)

/-- The reference's ten best first-hop scores. -/
theorem ref_values (r : Fin 10) :
    val_main_values (F := Ideal) x0 x1 x3 x4 x5 x6 x7 x9 x10 (ix2 b r) = Ideal.exp (-(Q.first (Q.branch r))) := by
  have h := ref_first Q b x0 x1 x2 x3 x4 x5 x6 x7 x8 x9 x10 H
  rw [val_main_values, top_value _ Q.firstR b h r, pick_branch Q b x0 x1 x2 x3 x4 x5 x6 x7 x8 x9 x10 H, h, Q.first_eq]

/-- The entities of the ten best. -/
theorem ref_indices (r : Fin 10) :
    val_main_indices (F := Ideal) x0 x1 x3 x4 x5 x6 x7 x9 x10 (ix2 b r) = BitVec.ofNat 32 (Q.branch r).val := by
  have h := ref_first Q b x0 x1 x2 x3 x4 x5 x6 x7 x8 x9 x10 H
  rw [val_main_indices, top_index _ Q.firstR b h r, pick_branch Q b x0 x1 x2 x3 x4 x5 x6 x7 x8 x9 x10 H]

/-- The row that the gather starts at: no entity number is negative, so none is moved. -/
theorem ref_start (r : Fin 10) :
    val_main_call6_v4 (F := Ideal) x0 x1 x3 x4 x5 x6 x7 x9 x10 (ix3 b r 0) = BitVec.ofNat 32 (Q.branch r).val := by
  pointwise [val_main_call6_v4, val_main_call6_v1, val_main_v140, val_main_call6_v0, val_main_call6_c]
  rw [ref_indices Q b x0 x1 x2 x3 x4 x5 x6 x7 x8 x9 x10 H]
  exact (congrArg (fun c => Scalar.select c _ _) (entity_nonneg _)).trans (if_neg (by decide))

/-- The check that the gather's row is in range says that it is. -/
theorem ref_inrange (r : Fin 10) : val_main_call6_v11 (F := Ideal) x0 x1 x3 x4 x5 x6 x7 x9 x10 (ix2 b r) = 1#1 := by
  have h := ref_start Q b x0 x1 x2 x3 x4 x5 x6 x7 x8 x9 x10 H r
  unfold val_main_call6_v11 val_main_call6_v10 val_main_call6_v9 val_main_call6_v6
  revert h
  generalize val_main_call6_v4 (F := Ideal) x0 x1 x3 x4 x5 x6 x7 x9 x10 = u
  intro h
  pointwise [val_main_call6_v5, val_main_call6_c_2, val_main_call6_v8, val_main_call6_v7, val_main_call6_c_1, val_main_call6_c_3]
  show IntOp.andi (IntOp.andi (IntOp.cmpi .sge (u (ix3 b r 0)) 0#32) (IntOp.cmpi .sle (u (ix3 b r 0)) 2047#32)) 1#1 = 1#1
  rw [h, entity_inrange]
  rfl

/-- The branches' entity vectors. -/
theorem ref_taken (r : Fin 10) (k : Fin 64) :
    val_main_v141 (F := Ideal) x0 x1 x3 x4 x5 x6 x7 x9 x10 (ix3 b r k) = (Q.en (Q.branch r) k : EReal) := by
  have hi : idx_main_call6_v13 (ix3 b r k : S4x10x64.Idx) = ix2 b r := by
    funext a
    match a with
    | ⟨0, _⟩ => rfl
    | ⟨1, _⟩ => rfl
  rw [val_main_v141_apply, val_main_call6_v13_apply, hi, ref_inrange Q b x0 x1 x2 x3 x4 x5 x6 x7 x8 x9 x10 H]
  rw [select_one, val_main_call6_v12]
  rw [gather_row x6 _ b r k (Q.branch r) (ref_start Q b x0 x1 x2 x3 x4 x5 x6 x7 x8 x9 x10 H r), H.en]

end

end Cert.Hops
-- ==== Proof.RefScore.lean ====
/-
  The reference's result for one batch element: over real inputs and full counts, the score of `Spec`.
-/
module

public import proofs.«01_k».proof.Proof.RefTaken

@[expose] public section

set_option maxRecDepth 16384

noncomputable section

namespace Cert.Hops

open Cert.ReferenceIdeal Cert.ReferenceIdeal.Gen Cert.ReferenceIdeal.Read
open Idealize.ShloMosaic Idealize.ShloMosaic.TcCoe

/-- The fact mask, repeated for every branch, is one when every fact counts. -/
theorem v207_apply (x9 : IVec S4 32) (b : Fin 4) (r : Fin 10) (f : Fin 4096) (h : 4096 ≤ (x9 (ix1 b)).toInt) :
    val_main_v207 (F := Ideal) x9 (ix3 b r f) = (1 : EReal) := by
  have hi : idx_main_v204 (idx_main_v207 (ix3 b r f : S4x10x4096.Idx)) = ix2 b f := by
    funext a
    match a with
    | ⟨0, _⟩ => rfl
    | ⟨1, _⟩ => rfl
  rw [val_main_v207_apply, val_main_v204_apply, hi, v203_eq, v57_apply x9 b f h]

/-- A branch's second-hop score: the best over the facts. -/
theorem v209_apply (x0 x1 x2 : FVec Ideal S4x64 .f32) (x3 x4 x5 : FVec Ideal S4x4096x64 .f32) (x6 : FVec Ideal S4x2048x64 .f32)
    (x7 x8 : FVec Ideal S64x64 .f32) (x9 x10 : IVec S4 32) (b : Fin 4) (r : Fin 10) :
    val_main_v209 (F := Ideal) x0 x1 x2 x3 x4 x5 x6 x7 x8 x9 x10 (ix2 b r)
      = ⨆ f, val_main_v162 (F := Ideal) x0 x3 x8 (ix3 b r f) * val_main_v179 (F := Ideal) x0 x1 x3 x4 x5 x6 x7 x9 x10 (ix3 b r f)
          * val_main_v196 (F := Ideal) x2 x5 (ix3 b r f) * val_main_v207 (F := Ideal) x9 (ix3 b r f) := by
  unfold val_main_v209 val_main_v208 val_main_v206 val_main_v205
  generalize val_main_v162 (F := Ideal) x0 x3 x8 = t
  generalize val_main_v179 (F := Ideal) x0 x1 x3 x4 x5 x6 x7 x9 x10 = u
  generalize val_main_v196 (F := Ideal) x2 x5 = v
  generalize val_main_v207 (F := Ideal) x9 = w
  pointwise [val_main_cst_37]
  rw [minus_inf, fold_max]

/-- The greatest of a row of ten. -/
theorem row_best (z : FVec Ideal S4x10 .f32) (b : Fin 4) :
    Host.reduce FloatOps.maximumf z (val_main_cst_38 (F := Ideal)) reducesTo_S4x10_S4_d1 h_S_ (ix1 b) = ⨆ r, z (ix2 b r) := by
  pointwise [val_main_cst_38]
  rw [minus_inf, fold_max]

section

variable (Q : Query) (b : Fin 4) (x0 x1 x2 : FVec Ideal S4x64 .f32) (x3 x4 x5 : FVec Ideal S4x4096x64 .f32)
  (x6 : FVec Ideal S4x2048x64 .f32) (x7 x8 : FVec Ideal S64x64 .f32) (x9 x10 : IVec S4 32)
  (H : HoldsAt Q b x0 x1 x2 x3 x4 x5 x6 x7 x8 x9 x10)
include H

/-- The branches' second-hop scores. -/
theorem ref_second (r : Fin 10) :
    val_main_v209 (F := Ideal) x0 x1 x2 x3 x4 x5 x6 x7 x8 x9 x10 (ix2 b r) = Ideal.exp (-(Q.second (Q.branch r))) := by
  rw [v209_apply, Query.second, ← best_exp]
  refine iSup_congr fun f => ?_
  rw [v207_apply x9 b r f H.facts, v162_eq, v196_eq, v179_eq, gauss10_apply, gauss10_apply, gauss10_apply,
    funext (ref_hop2 Q b x0 x1 x2 x3 x4 x5 x6 x7 x8 x9 x10 H r), funext (ref_taken Q b x0 x1 x2 x3 x4 x5 x6 x7 x8 x9 x10 H r),
    funext (v145_apply x2 b r), funext H.a2, funext (H.fr f), funext (H.f1 f), funext (H.f2 f), gauss_real, gauss_real, gauss_real]
  exact (mul_one _).trans (gauss_three _ _ _ _ _ _)

/-- The best of the branches. -/
theorem ref_branches :
    val_main_v211 (F := Ideal) x0 x1 x2 x3 x4 x5 x6 x7 x8 x9 x10 (ix1 b)
      = Ideal.exp (-(⨅ r, max (Q.first (Q.branch r)) (Q.second (Q.branch r)))) := by
  rw [← best_exp, val_main_v211, row_best]
  refine iSup_congr fun r => ?_
  rw [val_main_v210_apply, ref_values Q b x0 x1 x2 x3 x4 x5 x6 x7 x8 x9 x10 H, ref_second Q b x0 x1 x2 x3 x4 x5 x6 x7 x8 x9 x10 H]
  exact (exp_neg_antitone.map_max (a := Q.first (Q.branch r)) (b := Q.second (Q.branch r))).symm

/-- The reference's result is the score. -/
theorem ref_score : val_main_v212 (F := Ideal) x0 x1 x2 x3 x4 x5 x6 x7 x8 x9 x10 (ix1 b) = Q.score := by
  rw [val_main_v212_apply, ref_direct Q b x0 x1 x2 x3 x4 x5 x6 x7 x8 x9 x10 H, ref_branches Q b x0 x1 x2 x3 x4 x5 x6 x7 x8 x9 x10 H,
    Query.score]
  exact (exp_neg_antitone.map_min (a := Q.direct) (b := ⨅ r, max (Q.first (Q.branch r)) (Q.second (Q.branch r)))).symm

end

end Cert.Hops
-- ==== Proof.Equation.lean ====
/-
  The value claim: over real arguments and full counts, the kernel and the reference end with the same scores.
-/
module

public import proofs.«01_k».proof.Proof.Precondition
public import proofs.«01_k».proof.Proof.RefScore
public import proofs.«01_k».proof.Proof.Gen.ReferenceIdeal.Run

@[expose] public section

set_option maxRecDepth 16384

noncomputable section

namespace Cert.Hops

open Idealize.ShloMosaic Idealize.ShloMosaic.TcCoe Idealize.ShloMosaic.StableHlo

/-- Real arrays and full counts hold the numbers of the query that they give. -/
theorem holdsAt_query (x0 x1 x2 : FVec Ideal Cert.ReferenceIdeal.S4x64 .f32) (x3 x4 x5 : FVec Ideal Cert.ReferenceIdeal.S4x4096x64 .f32)
    (x6 : FVec Ideal Cert.ReferenceIdeal.S4x2048x64 .f32) (x7 x8 : FVec Ideal Cert.ReferenceIdeal.S64x64 .f32)
    (x9 x10 : IVec Cert.ReferenceIdeal.S4 32) (b : Fin 4)
    (h0 : IsReal x0) (h1 : IsReal x1) (h2 : IsReal x2) (h3 : IsReal x3) (h4 : IsReal x4) (h5 : IsReal x5) (h6 : IsReal x6) (h7 : IsReal x7)
    (h8 : IsReal x8) (h9 : ∀ i, 4096 ≤ (x9 i).toInt) (h10 : ∀ i, 2048 ≤ (x10 i).toInt) :
    HoldsAt (query x0 x1 x2 x3 x4 x5 x6 x7 x8 b) b x0 x1 x2 x3 x4 x5 x6 x7 x8 x9 x10 where
  rel k := h0.eq _
  a1 k := h1.eq _
  a2 k := h2.eq _
  fr f k := h3.eq _
  f1 f k := h4.eq _
  f2 f k := h5.eq _
  en n k := h6.eq _
  W1 j k := h7.eq _
  W2 j k := h8.eq _
  facts := h9 _
  entities := h10 _

/-- The reference's whole result on real arrays with full counts. -/
theorem ref_result (x0 x1 x2 : FVec Ideal Cert.ReferenceIdeal.S4x64 .f32) (x3 x4 x5 : FVec Ideal Cert.ReferenceIdeal.S4x4096x64 .f32)
    (x6 : FVec Ideal Cert.ReferenceIdeal.S4x2048x64 .f32) (x7 x8 : FVec Ideal Cert.ReferenceIdeal.S64x64 .f32)
    (x9 x10 : IVec Cert.ReferenceIdeal.S4 32)
    (h0 : IsReal x0) (h1 : IsReal x1) (h2 : IsReal x2) (h3 : IsReal x3) (h4 : IsReal x4) (h5 : IsReal x5) (h6 : IsReal x6) (h7 : IsReal x7)
    (h8 : IsReal x8) (h9 : ∀ i, 4096 ≤ (x9 i).toInt) (h10 : ∀ i, 2048 ≤ (x10 i).toInt) :
    Cert.ReferenceIdeal.Read.val_main_v212 (F := Ideal) x0 x1 x2 x3 x4 x5 x6 x7 x8 x9 x10
      = fun i => (query x0 x1 x2 x3 x4 x5 x6 x7 x8 (i 0)).score := by
  funext i
  have hi : i = ix1 (i 0) := by
    funext a
    match a with
    | ⟨0, _⟩ => rfl
  rw [hi]
  exact ref_score _ (i 0) x0 x1 x2 x3 x4 x5 x6 x7 x8 x9 x10
    (holdsAt_query x0 x1 x2 x3 x4 x5 x6 x7 x8 x9 x10 (i 0) h0 h1 h2 h3 h4 h5 h6 h7 h8 h9 h10)

/-- The reference's frame: it ends, its arguments are unchanged and no counter is left. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with equal results. -/
theorem equation : Cert.algebraic_KernelIdeal_ReferenceIdeal_pre_finite_and_full (hKernelIdeal := Cert.KernelIdeal.Gen.facts)
    (hReferenceIdeal := Cert.ReferenceIdeal.Gen.facts) (hPre_finite_and_full := pre_facts) := by
  intro m g m' g' hp hagree
  refine ⟨fun c i => (launched m c (i 0)).score, ?_, ?_⟩
  · exact (θ_run _ _ _).mono (fun r h c => ⟨h.1 c, h.2 c⟩)
      (θ_run_and (kernel_run m g fun c => pre_real m hp c) (Cert.KernelIdeal.Gen.unchanged m g))
  · refine (θ_run _ _ _).mono (fun r h c => ⟨(h c).1.trans ?_, (h c).2⟩) (Cert.ReferenceIdeal.Value.run (F := Ideal) m' g')
    obtain ⟨a0, a1, a2, a3, a4, a5, a6, a7, a8, a9, a10⟩ := hagree c
    have R := pre_real m hp c
    have e : ∀ b, launchContents m' c (Proc.devRef .tc b) = m' ((c.tc : Thread Cert.ReferenceIdeal.nD Cert.ReferenceIdeal.τ).loc b) := fun _ => rfl
    refine (Cert.ReferenceIdeal.Read.val_main_v212_eq (launchContents m' c)).trans ?_
    rw [(e _).trans a0, (e _).trans a1, (e _).trans a2, (e _).trans a3, (e _).trans a4, (e _).trans a5, (e _).trans a6, (e _).trans a7,
      (e _).trans a8, (e _).trans a9, (e _).trans a10]
    exact ref_result _ _ _ _ _ _ _ _ _ _ _ R.h0 R.h1 R.h2 R.h3 R.h4 R.h5 R.h6 R.h7 R.h8 (pre_facts_count m hp c) (pre_entities_count m hp c)

end Cert.Hops
-- ==== Proof.lean ====
/-
  The certificate's proof. The frames are the generated ones, the reference's from its generated run. No operation of the kernel is replaced, so
  there is nothing to preserve. The value claim is `Cert.Hops.equation` (Proof/Equation.lean):

    Dist, Select, Spec      the plain mathematics: distances, the choice of the ten nearest, the score
    Rounds, Block, Values, Score, Array      the kernel computes the score
    RefParts, TopTen, RefHops, RefFirst, RefTaken, RefScore      the reference computes the score
    Precondition, Equation      the precondition read, and the two sides joined
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim :=
  ⟨Cert.Kernel.Gen.facts, Cert.KernelIdeal.Gen.facts, Cert.ReferenceIdeal.Gen.facts, Cert.Hops.pre_facts,
    fun m ρ _ => Cert.Kernel.Gen.frame m ρ,
    fun m ρ _ => Cert.KernelIdeal.Gen.frame m ρ,
    fun m ρ _ => Cert.KernelIdeal.Gen.frame m ρ,
    Cert.Hops.reference_frame,
    fun m ρ _ => Cert.Hops.reference_frame m ρ trivial,
    trivial,
    Cert.Hops.equation⟩

end Cert.Proof

end
